-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x128x64 : Shape := ⟨4, ![2, 128, 128, 64]⟩
abbrev S256x512 : Shape := ⟨2, ![256, 512]⟩
abbrev S_ : Shape := ⟨0, ![]⟩
abbrev S2x128x4x64 : Shape := ⟨4, ![2, 128, 4, 64]⟩
abbrev S2x5x2x128x256 : Shape := ⟨5, ![2, 5, 2, 128, 256]⟩
abbrev S2x5 : Shape := ⟨2, ![2, 5]⟩
abbrev S128x128 : Shape := ⟨2, ![128, 128]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x128x1x64 : Shape := ⟨4, ![1, 128, 1, 64]⟩
abbrev S128 : Shape := ⟨1, ![128]⟩
abbrev S128x1 : Shape := ⟨2, ![128, 1]⟩
abbrev S64x512 : Shape := ⟨2, ![64, 512]⟩
abbrev S2x128x256 : Shape := ⟨3, ![2, 128, 256]⟩
abbrev S1x1x2x128x256 : Shape := ⟨5, ![1, 1, 2, 128, 256]⟩
abbrev S1x1 : Shape := ⟨2, ![1, 1]⟩

abbrev nBuf : Space → Nat
  | .hbm => 34
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x128x64, .bf16⟩
  | .hbm, ⟨3, _⟩ => ⟨S2x128x128x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x4x64, .bf16⟩
  | .hbm, ⟨33, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S2x5x2x128x256, .bf16⟩
  | .local _ .vmem, ⟨7, _⟩ => ⟨S2x5x2x128x256, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_169 : BitVec 32 := 1#32
  let v321 : BitVec 32 := Scalar.xori v2 c1_i32_169
  let c1_i32_171 : BitVec 32 := 1#32
  let v322 : BitVec 32 := Scalar.muli v321 c1_i32_171
  let v323 : BitVec 32 := Scalar.addi c0_i32_172 v322
  v323.toNat
def k0_dev2 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v324 : BitVec 32 := Scalar.xori v2 c2_i32
  let c1_i32_174 : BitVec 32 := 1#32
  let v325 : BitVec 32 := Scalar.muli v324 c1_i32_174
  let v326 : BitVec 32 := Scalar.addi c0_i32_175 v325
  v326.toNat
def k0_dev3 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_176 : BitVec 32 := 4#32
  let v327 : BitVec 32 := Scalar.xori v2 c4_i32_176
  let c1_i32_178 : BitVec 32 := 1#32
  let v328 : BitVec 32 := Scalar.muli v327 c1_i32_178
  let v329 : BitVec 32 := Scalar.addi c0_i32_179 v328
  v329.toNat
def k0_dev4 (d0 : Dev nD) : Nat :=
  let c0_i32_182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v330 : BitVec 32 := Scalar.xori v2 c8_i32
  let c1_i32_181 : BitVec 32 := 1#32
  let v331 : BitVec 32 := Scalar.muli v330 c1_i32_181
  let v332 : BitVec 32 := Scalar.addi c0_i32_182 v331
  v332.toNat
def k0_dev5 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v333 : BitVec 32 := Scalar.xori v2 c16_i32
  let c1_i32_184 : BitVec 32 := 1#32
  let v334 : BitVec 32 := Scalar.muli v333 c1_i32_184
  let v335 : BitVec 32 := Scalar.addi c0_i32_185 v334
  v335.toNat
def k0_dev6 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_186 : BitVec 32 := 1#32
  let v336 : BitVec 32 := Scalar.xori v2 c1_i32_186
  let c1_i32_203 : BitVec 32 := 1#32
  let v343 : BitVec 32 := Scalar.muli v336 c1_i32_203
  let v344 : BitVec 32 := Scalar.addi c0_i32_204 v343
  v344.toNat
def k0_dev7 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_211 : BitVec 32 := 8#32
  let v353 : BitVec 32 := Scalar.xori v2 c8_i32_211
  let c1_i32_227 : BitVec 32 := 1#32
  let v360 : BitVec 32 := Scalar.muli v353 c1_i32_227
  let v361 : BitVec 32 := Scalar.addi c0_i32_228 v360
  v361.toNat
def k0_dev8 (d0 : Dev nD) : Nat :=
  let c0_i32_337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_319 : BitVec 32 := 2#32
  let v412 : BitVec 32 := Scalar.xori v2 c2_i32_319
  let c1_i32_336 : BitVec 32 := 1#32
  let v419 : BitVec 32 := Scalar.muli v412 c1_i32_336
  let v420 : BitVec 32 := Scalar.addi c0_i32_337 v419
  v420.toNat
def k0_dev9 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_344 : BitVec 32 := 16#32
  let v429 : BitVec 32 := Scalar.xori v2 c16_i32_344
  let c1_i32_361 : BitVec 32 := 1#32
  let v436 : BitVec 32 := Scalar.muli v429 c1_i32_361
  let v437 : BitVec 32 := Scalar.addi c0_i32_362 v436
  v437.toNat
def k0_dev10 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_453 : BitVec 32 := 4#32
  let v488 : BitVec 32 := Scalar.xori v2 c4_i32_453
  let c1_i32_470 : BitVec 32 := 1#32
  let v495 : BitVec 32 := Scalar.muli v488 c1_i32_470
  let v496 : BitVec 32 := Scalar.addi c0_i32_471 v495
  v496.toNat
def k0_dev11 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_478 : BitVec 32 := 1#32
  let v505 : BitVec 32 := Scalar.xori v2 c1_i32_478
  let c1_i32_495 : BitVec 32 := 1#32
  let v512 : BitVec 32 := Scalar.muli v505 c1_i32_495
  let v513 : BitVec 32 := Scalar.addi c0_i32_496 v512
  v513.toNat
def k0_dev12 (d0 : Dev nD) : Nat :=
  let c0_i32_604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_587 : BitVec 32 := 8#32
  let v564 : BitVec 32 := Scalar.xori v2 c8_i32_587
  let c1_i32_603 : BitVec 32 := 1#32
  let v571 : BitVec 32 := Scalar.muli v564 c1_i32_603
  let v572 : BitVec 32 := Scalar.addi c0_i32_604 v571
  v572.toNat
def k0_dev13 (d0 : Dev nD) : Nat :=
  let c0_i32_629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_611 : BitVec 32 := 2#32
  let v581 : BitVec 32 := Scalar.xori v2 c2_i32_611
  let c1_i32_628 : BitVec 32 := 1#32
  let v588 : BitVec 32 := Scalar.muli v581 c1_i32_628
  let v589 : BitVec 32 := Scalar.addi c0_i32_629 v588
  v589.toNat
def k0_dev14 (d0 : Dev nD) : Nat :=
  let c0_i32_737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_720 : BitVec 32 := 16#32
  let v640 : BitVec 32 := Scalar.xori v2 c16_i32_720
  let c1_i32_736 : BitVec 32 := 1#32
  let v647 : BitVec 32 := Scalar.muli v640 c1_i32_736
  let v648 : BitVec 32 := Scalar.addi c0_i32_737 v647
  v648.toNat
def k0_dev15 (d0 : Dev nD) : Nat :=
  let c0_i32_762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_744 : BitVec 32 := 4#32
  let v657 : BitVec 32 := Scalar.xori v2 c4_i32_744
  let c1_i32_761 : BitVec 32 := 1#32
  let v664 : BitVec 32 := Scalar.muli v657 c1_i32_761
  let v665 : BitVec 32 := Scalar.addi c0_i32_762 v664
  v665.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S2x128x128x64 : Shape := ⟨4, ![2, 128, 128, 64]⟩
abbrev S8192x512 : Shape := ⟨2, ![8192, 512]⟩
abbrev S2x128x8192 : Shape := ⟨3, ![2, 128, 8192]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x128x128x128 : Shape := ⟨4, ![2, 128, 128, 128]⟩
abbrev S1x1x128x128 : Shape := ⟨4, ![1, 1, 128, 128]⟩
abbrev S2x128x128 : Shape := ⟨3, ![2, 128, 128]⟩
abbrev S2x128x128x1 : Shape := ⟨4, ![2, 128, 128, 1]⟩
abbrev S1x1x128x1 : Shape := ⟨4, ![1, 1, 128, 1]⟩
abbrev S2x128x64x128 : Shape := ⟨4, ![2, 128, 64, 128]⟩

abbrev nBuf : Space → Nat
  | .hbm => 142
  | .vmem => 0
  | .smem => 0
  | _ => 0

abbrev hbmTy0_0 (i : Nat) : BufTy := match i % 128 with
  | 0 => ⟨S2x128x512, .bf16⟩
  | 1 => ⟨S512x8192, .bf16⟩
  | 2 => ⟨S2x128x128x64, .bf16⟩
  | 3 => ⟨S2x128x128x64, .bf16⟩
  | 4 => ⟨S8192x512, .bf16⟩
  | 5 => ⟨S2x128x8192, .f32⟩
  | 6 => ⟨S2x128x8192, .bf16⟩
  | 7 => ⟨S2x128x128x64, .bf16⟩
  | 8 => ⟨S128, .i32⟩
  | 9 => ⟨S_, .i32⟩
  | 10 => ⟨S_, .i32⟩
  | 11 => ⟨S128, .i32⟩
  | 12 => ⟨S128, .i32⟩
  | 13 => ⟨S128, .i32⟩
  | 14 => ⟨S_, .i32⟩
  | 15 => ⟨S128, .i32⟩
  | 16 => ⟨S128, .i1⟩
  | 17 => ⟨S128, .i32⟩
  | 18 => ⟨S128, .i32⟩
  | 19 => ⟨S_, .i32⟩
  | 20 => ⟨S128, .i32⟩
  | 21 => ⟨S128, .i1⟩
  | 22 => ⟨S128, .i1⟩
  | 23 => ⟨S_, .i32⟩
  | 24 => ⟨S128, .i32⟩
  | 25 => ⟨S128, .i32⟩
  | 26 => ⟨S128, .i32⟩
  | 27 => ⟨S128x1, .i32⟩
  | 28 => ⟨S128, .i32⟩
  | 29 => ⟨S_, .i32⟩
  | 30 => ⟨S_, .i32⟩
  | 31 => ⟨S128, .i32⟩
  | 32 => ⟨S128, .i32⟩
  | 33 => ⟨S128, .i32⟩
  | 34 => ⟨S_, .i32⟩
  | 35 => ⟨S128, .i32⟩
  | 36 => ⟨S128, .i1⟩
  | 37 => ⟨S128, .i32⟩
  | 38 => ⟨S128, .i32⟩
  | 39 => ⟨S_, .i32⟩
  | 40 => ⟨S128, .i32⟩
  | 41 => ⟨S128, .i1⟩
  | 42 => ⟨S128, .i1⟩
  | 43 => ⟨S_, .i32⟩
  | 44 => ⟨S128, .i32⟩
  | 45 => ⟨S128, .i32⟩
  | 46 => ⟨S128, .i32⟩
  | 47 => ⟨S1x128, .i32⟩
  | 48 => ⟨S128x128, .i32⟩
  | 49 => ⟨S128x128, .i32⟩
  | 50 => ⟨S128x128, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x128, .i32⟩
  | 58 => ⟨S1x128, .i32⟩
  | 59 => ⟨S_, .i32⟩
  | 60 => ⟨S1x128, .i32⟩
  | 61 => ⟨S1x128, .i1⟩
  | 62 => ⟨S_, .i32⟩
  | 63 => ⟨S1x128, .i32⟩
  | 64 => ⟨S1x128, .i1⟩
  | 65 => ⟨S_, .i32⟩
  | 66 => ⟨S_, .i1⟩
  | 67 => ⟨S1x128, .i1⟩
  | 68 => ⟨S1x128, .i1⟩
  | 69 => ⟨S1x128, .i1⟩
  | 70 => ⟨S1x128, .i32⟩
  | 71 => ⟨S1x128, .i32⟩
  | 72 => ⟨S1x128, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S128x1, .i32⟩
  | 80 => ⟨S128x1, .i32⟩
  | 81 => ⟨S_, .i32⟩
  | 82 => ⟨S128x1, .i32⟩
  | 83 => ⟨S128x1, .i1⟩
  | 84 => ⟨S_, .i32⟩
  | 85 => ⟨S128x1, .i32⟩
  | 86 => ⟨S128x1, .i1⟩
  | 87 => ⟨S_, .i32⟩
  | 88 => ⟨S_, .i1⟩
  | 89 => ⟨S128x1, .i1⟩
  | 90 => ⟨S128x1, .i1⟩
  | 91 => ⟨S128x1, .i1⟩
  | 92 => ⟨S128x1, .i32⟩
  | 93 => ⟨S128x1, .i32⟩
  | 94 => ⟨S128x1, .i32⟩
  | 95 => ⟨S128x128, .i32⟩
  | 96 => ⟨S128x128, .i32⟩
  | 97 => ⟨S128x128, .i1⟩
  | 98 => ⟨S128x128, .i1⟩
  | 99 => ⟨S2x128x128x128, .f32⟩
  | 100 => ⟨S2x128x128x128, .bf16⟩
  | 101 => ⟨S2x128x128x128, .f32⟩
  | 102 => ⟨S_, .f32⟩
  | 103 => ⟨S2x128x128x128, .f32⟩
  | 104 => ⟨S2x128x128x128, .f32⟩
  | 105 => ⟨S1x1x128x128, .i1⟩
  | 106 => ⟨S_, .f32⟩
  | 107 => ⟨S_, .f32⟩
  | 108 => ⟨S2x128x128x128, .i1⟩
  | 109 => ⟨S2x128x128x128, .f32⟩
  | 110 => ⟨S2x128x128x128, .f32⟩
  | 111 => ⟨S_, .f32⟩
  | 112 => ⟨S2x128x128, .f32⟩
  | 113 => ⟨S2x128x128x1, .f32⟩
  | 114 => ⟨S2x128x128x128, .f32⟩
  | 115 => ⟨S2x128x128x128, .f32⟩
  | 116 => ⟨S2x128x128x128, .f32⟩
  | 117 => ⟨S_, .i1⟩
  | 118 => ⟨S128, .i1⟩
  | 119 => ⟨S1x1x128x1, .i1⟩
  | 120 => ⟨S_, .f32⟩
  | 121 => ⟨S2x128x128, .f32⟩
  | 122 => ⟨S2x128x128x1, .f32⟩
  | 123 => ⟨S_, .f32⟩
  | 124 => ⟨S_, .f32⟩
  | 125 => ⟨S2x128x128x1, .i1⟩
  | 126 => ⟨S2x128x128x1, .f32⟩
  | 127 => ⟨S2x128x128x1, .f32⟩
  | _ => ⟨S2x128x512, .bf16⟩

abbrev hbmTy0_1 (i : Nat) : BufTy := match i % 128 with
  | 0 => ⟨S2x128x128x128, .f32⟩
  | 1 => ⟨S2x128x128x128, .f32⟩
  | 2 => ⟨S1x1x128x1, .i1⟩
  | 3 => ⟨S_, .f32⟩
  | 4 => ⟨S_, .f32⟩
  | 5 => ⟨S2x128x128x128, .i1⟩
  | 6 => ⟨S2x128x128x128, .f32⟩
  | 7 => ⟨S2x128x128x128, .f32⟩
  | 8 => ⟨S2x128x128x64, .f32⟩
  | 9 => ⟨S2x128x64x128, .f32⟩
  | 10 => ⟨S2x128x128x64, .f32⟩
  | 11 => ⟨S2x128x8192, .f32⟩
  | 12 => ⟨S8192x512, .f32⟩
  | 13 => ⟨S2x128x512, .f32⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Flat.lean ====
module

public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

/-! # The kernel as one straight program of repeated steps

The printed kernel is a long list of statements cut into parts. Here it is restated as a short
program over symbolic step numbers: two batches of attention, the barrier, and five stages of two
send half-steps and two receive half-steps. The two programs are equal by unfolding. -/

namespace Cert.KProof

open Idealize.ShloMosaic Idealize.ShloMosaic.TcCoe Idealize.SL.Sem
open Cert.KernelIdeal
open Cert.KernelIdeal.Facts₀ Cert.KernelIdeal.Facts

variable {F : FTy → Type} [FloatOps F]

/-! ## The device each device talks to -/

/-- The partner of a device across bit `s` of the device number. -/
def peer (s : Fin 5) (c : Dev nD) : Dev nD :=
  ⟨c.val ^^^ (2 ^ s.val), Nat.xor_lt_two_pow (n := 5) c.isLt (Nat.pow_lt_pow_right (by decide) s.isLt)⟩

/-- Meeting the partner's partner leads back. -/
theorem peer_peer (s : Fin 5) (c : Dev nD) : peer s (peer s c) = c := by
  apply Fin.ext; show (c.val ^^^ _) ^^^ _ = _; rw [Nat.xor_assoc, Nat.xor_self, Nat.xor_zero]

/-- Partnership across a bit as a permutation of the devices. -/
def peerEquiv (s : Fin 5) : Dev nD ≃ Dev nD := ⟨peer s, peer s, peer_peer s, peer_peer s⟩

/-- The bit across which column half `h` is exchanged in stage `k`: the first half takes the bits in
    order, the second half starts at bit 3. -/
def ord (h : Fin 2) (k : Fin 5) : Fin 5 := if h = 0 then k else k + 3

/-- The stage in which column half `h` is exchanged across bit `s`. -/
def stageOf (h : Fin 2) (s : Fin 5) : Fin 5 := if h = 0 then s else s + 2

theorem ord_stageOf (h : Fin 2) (s : Fin 5) : ord h (stageOf h s) = s := by revert h s; decide
theorem stageOf_ord (h : Fin 2) (k : Fin 5) : stageOf h (ord h k) = k := by revert h k; decide

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = peer 4 c := by revert c; decide +kernel
theorem dev6_eq (c : Dev nD) : (⟨k0_dev6 c, k0_dev6_lt c⟩ : Dev nD) = peer (ord 0 0) c := by revert c; decide +kernel
theorem dev7_eq (c : Dev nD) : (⟨k0_dev7 c, k0_dev7_lt c⟩ : Dev nD) = peer (ord 1 0) c := by revert c; decide +kernel
theorem dev8_eq (c : Dev nD) : (⟨k0_dev8 c, k0_dev8_lt c⟩ : Dev nD) = peer (ord 0 1) c := by revert c; decide +kernel
theorem dev9_eq (c : Dev nD) : (⟨k0_dev9 c, k0_dev9_lt c⟩ : Dev nD) = peer (ord 1 1) c := by revert c; decide +kernel
theorem dev10_eq (c : Dev nD) : (⟨k0_dev10 c, k0_dev10_lt c⟩ : Dev nD) = peer (ord 0 2) c := by revert c; decide +kernel
theorem dev11_eq (c : Dev nD) : (⟨k0_dev11 c, k0_dev11_lt c⟩ : Dev nD) = peer (ord 1 2) c := by revert c; decide +kernel
theorem dev12_eq (c : Dev nD) : (⟨k0_dev12 c, k0_dev12_lt c⟩ : Dev nD) = peer (ord 0 3) c := by revert c; decide +kernel
theorem dev13_eq (c : Dev nD) : (⟨k0_dev13 c, k0_dev13_lt c⟩ : Dev nD) = peer (ord 1 3) c := by revert c; decide +kernel
theorem dev14_eq (c : Dev nD) : (⟨k0_dev14 c, k0_dev14_lt c⟩ : Dev nD) = peer (ord 0 4) c := by revert c; decide +kernel
theorem dev15_eq (c : Dev nD) : (⟨k0_dev15 c, k0_dev15_lt c⟩ : Dev nD) = peer (ord 1 4) c := by revert c; decide +kernel

/-! ## The buffers and their parts -/

abbrev xM : Memref sig .tc .vmem S2x128x512 .bf16 := Memref.whole cc0_stg0_0
abbrev wqM : Memref sig .tc .vmem S512x256 .bf16 := Memref.whole cc0_stg1_0
abbrev kM : Memref sig .tc .vmem S2x128x4x64 .bf16 := Memref.whole cc0_stg2_0
abbrev vM : Memref sig .tc .vmem S2x128x4x64 .bf16 := Memref.whole cc0_stg3_0
abbrev woM : Memref sig .tc .vmem S256x512 .bf16 := Memref.whole cc0_stg4_0
abbrev outM : Memref sig .tc .vmem S2x128x512 .f32 := Memref.whole cc0_stg5_0
abbrev sendM : Memref sig .tc .vmem S2x5x2x128x256 .bf16 := Memref.whole cc0_scratch0
abbrev commM : Memref sig .tc .vmem S2x5x2x128x256 .bf16 := Memref.whole cc0_scratch1

theorem rowB_inb (b : Fin 2) : ∀ a, (![b.val, 0, 0] : Fin 3 → Nat) a + S1x128x512.size a ≤ S2x128x512.size a := by
  revert b; decide
theorem kv_inb (b : Fin 2) (j : Fin 4) : ∀ a, (![b.val, 0, j.val, 0] : Fin 4 → Nat) a + S1x128x1x64.size a ≤ S2x128x4x64.size a := by
  revert b j; decide
theorem wo_inb (j : Fin 4) : ∀ a, (![64 * j.val, 0] : Fin 2 → Nat) a + S64x512.size a ≤ S256x512.size a := by
  revert j; decide
theorem half_inb (h : Fin 2) : ∀ a, (![0, 0, 256 * h.val] : Fin 3 → Nat) a + S2x128x256.size a ≤ S2x128x512.size a := by
  revert h; decide
theorem slot_inb (h : Fin 2) (k : Fin 5) : ∀ a, (![h.val, k.val, 0, 0, 0] : Fin 5 → Nat) a + S1x1x2x128x256.size a ≤ S2x5x2x128x256.size a := by
  revert h k; decide
theorem sem_inb (h : Fin 2) (k : Fin 5) : ∀ a, (![h.val, k.val] : Fin 2 → Nat) a + S1x1.size a ≤ S2x5.size a := by
  revert h k; decide
theorem q_slices (j : Fin 4) : S128x256.Slices ![0, 64 * j.val] S128x64 := by
  revert j; decide

/-- Batch `b` of an activation-shaped buffer. -/
abbrev rowRect (b : Fin 2) := Rect.unit (s := S2x128x512) ![b.val, 0, 0] S1x128x512.size (rowB_inb b)
/-- Head `j` of batch `b` of the keys or the values. -/
abbrev kvRect (b : Fin 2) (j : Fin 4) := Rect.unit (s := S2x128x4x64) ![b.val, 0, j.val, 0] S1x128x1x64.size (kv_inb b j)
/-- The rows of the output projection that belong to head `j`. -/
abbrev woRect (j : Fin 4) := Rect.unit (s := S256x512) ![64 * j.val, 0] S64x512.size (wo_inb j)
/-- Column half `h` of the result. -/
abbrev halfRect (h : Fin 2) := Rect.unit (s := S2x128x512) ![0, 0, 256 * h.val] S2x128x256.size (half_inb h)
/-- Slot `(h, k)` of a communication buffer. -/
abbrev slotRect (h : Fin 2) (k : Fin 5) := Rect.unit (s := S2x5x2x128x256) ![h.val, k.val, 0, 0, 0] S1x1x2x128x256.size (slot_inb h k)

theorem slot_words (h : Fin 2) (k : Fin 5) : (slotRect h k).WholeWords (EltTy.packing .bf16) := by
  revert h k; decide
theorem slot_packed (h : Fin 2) (k : Fin 5) : (slotRect h k).PackedRows (EltTy.packing .bf16) := by
  revert h k; decide

/-- A slot as the three-axis buffer the copies move. -/
abbrev slotM (M : Memref sig .tc .vmem S2x5x2x128x256 .bf16) (h : Fin 2) (k : Fin 5) : Memref sig .tc .vmem S2x128x256 .bf16 :=
  (M.slice (slotRect h k) (fun _ => rfl)).squeeze S2x128x256 squeezes_S1x1x2x128x256_S2x128x256

theorem slot_exact (M : Memref sig .tc .vmem S2x5x2x128x256 .bf16) (hM : M.IsWhole) (h : Fin 2) (k : Fin 5) :
    (slotM M h k).view.WordExact :=
  (hM.wordExact_slice rfl _ (slot_words h k)).reshape _ _

/-- The semaphore a send of slot `(h, k)` completes on. -/
abbrev sendS (h : Fin 2) (k : Fin 5) : DmaSem sig :=
  ((cc0_scratch2.slice (Rect.unit (s := S2x5) ![h.val, k.val] S1x1.size (sem_inb h k))).squeeze S_ squeezes_S1x1_S_).sem
/-- The semaphore an arrival in slot `(h, k)` completes on. -/
abbrev recvS (h : Fin 2) (k : Fin 5) : DmaSem sig :=
  ((cc0_scratch3.slice (Rect.unit (s := S2x5) ![h.val, k.val] S1x1.size (sem_inb h k))).squeeze S_ squeezes_S1x1_S_).sem
/-- The barrier semaphore. -/
abbrev barS : Sem sig := (SemArray.scalar (sig.barrier 0 rfl) : Sems sig S_).sem

/-! ## What the steps compute -/

/-- Which key positions a query position looks at. -/
def maskV : IVec S128x128 1 :=
  Gen.k0_pay5 Gen.k0_pay2 (iota .tc S128x128 32 [1] iota_S128x128_d1_w32) 64#32 Gen.k0_pay3 Gen.k0_pay4

/-- The queries of head `j`, cast. -/
def qHead (Q : FVec F S128x256 .f32) (j : Fin 4) : FVec F S128x64 .bf16 :=
  truncf .bf16 (extractStridedSlice S128x64 ![0, 64 * j.val] Q (q_slices j)) bitsLt_bf16_f32

/-- One head's contribution added to the sum so far. -/
def headAdd (mk : IVec S128x128 1) (Q : FVec F S128x256 .f32) (j : Fin 4) (kt vt : Vec F S1x128x1x64 .bf16)
    (w : Vec F S64x512 .bf16) (acc : FVec F S128x512 .f32) : FVec F S128x512 .f32 :=
  Gen.k0_pay10 mk acc (qHead Q j) kt vt w

/-- One batch's result on a device: the four heads' contributions, from zero. -/
def batchOut (mk : IVec S128x128 1) (wq : Vec F S512x256 .bf16) (x : Vec F S1x128x512 .bf16)
    (k0 v0 : Vec F S1x128x1x64 .bf16) (w0 : Vec F S64x512 .bf16) (k1 v1 : Vec F S1x128x1x64 .bf16) (w1 : Vec F S64x512 .bf16)
    (k2 v2 : Vec F S1x128x1x64 .bf16) (w2 : Vec F S64x512 .bf16) (k3 v3 : Vec F S1x128x1x64 .bf16) (w3 : Vec F S64x512 .bf16) :
    FVec F S1x128x512 .f32 :=
  shapeCast S1x128x512
    (headAdd mk (Gen.k0_pay7 wq x) 3 k3 v3 w3 (headAdd mk (Gen.k0_pay7 wq x) 2 k2 v2 w2
      (headAdd mk (Gen.k0_pay7 wq x) 1 k1 v1 w1 (headAdd mk (Gen.k0_pay7 wq x) 0 k0 v0 w0 (Gen.k0_pay16 (F := F))))))
    shapeCasts_S128x512_S1x128x512

/-- What is sent: the half, cast. -/
def castV (v : Vec F S2x128x256 .f32) : FVec F S1x1x2x128x256 .bf16 := Gen.k0_pay24 v
/-- What is kept: the half plus what arrived. -/
def addV (v : Vec F S2x128x256 .f32) (w : Vec F S1x1x2x128x256 .bf16) : FVec F S2x128x256 .f32 := Gen.k0_pay27 v w

/-! ## The steps -/

abbrev KProg (α : Type) : Type 1 := Prog (TpuEff nD τ sig (Elt F) Λ₀ .tc) α

/-- One batch of attention: load, compute, store. -/
def attnBatch (b : Fin 2) (mk : IVec S128x128 1) (wq : Vec F S512x256 .bf16) : KProg (F := F) PUnit :=
  .op (.load xM (rowRect b).toLoadRect (View.loadsAt_vmem h_S1x128x512)) fun (x : Vec F S1x128x512 .bf16) =>
  .op (.load kM (kvRect b 0).toLoadRect (View.loadsAt_vmem h_S1x128x1x64)) fun (k0 : Vec F S1x128x1x64 .bf16) =>
  .op (.load vM (kvRect b 0).toLoadRect (View.loadsAt_vmem h_S1x128x1x64)) fun (v0 : Vec F S1x128x1x64 .bf16) =>
  .op (.load woM (woRect 0).toLoadRect (View.loadsAt_vmem h_S64x512)) fun (w0 : Vec F S64x512 .bf16) =>
  .op (.load kM (kvRect b 1).toLoadRect (View.loadsAt_vmem h_S1x128x1x64)) fun (k1 : Vec F S1x128x1x64 .bf16) =>
  .op (.load vM (kvRect b 1).toLoadRect (View.loadsAt_vmem h_S1x128x1x64)) fun (v1 : Vec F S1x128x1x64 .bf16) =>
  .op (.load woM (woRect 1).toLoadRect (View.loadsAt_vmem h_S64x512)) fun (w1 : Vec F S64x512 .bf16) =>
  .op (.load kM (kvRect b 2).toLoadRect (View.loadsAt_vmem h_S1x128x1x64)) fun (k2 : Vec F S1x128x1x64 .bf16) =>
  .op (.load vM (kvRect b 2).toLoadRect (View.loadsAt_vmem h_S1x128x1x64)) fun (v2 : Vec F S1x128x1x64 .bf16) =>
  .op (.load woM (woRect 2).toLoadRect (View.loadsAt_vmem h_S64x512)) fun (w2 : Vec F S64x512 .bf16) =>
  .op (.load kM (kvRect b 3).toLoadRect (View.loadsAt_vmem h_S1x128x1x64)) fun (k3 : Vec F S1x128x1x64 .bf16) =>
  .op (.load vM (kvRect b 3).toLoadRect (View.loadsAt_vmem h_S1x128x1x64)) fun (v3 : Vec F S1x128x1x64 .bf16) =>
  .op (.load woM (woRect 3).toLoadRect (View.loadsAt_vmem h_S64x512)) fun (w3 : Vec F S64x512 .bf16) =>
  .op (.load outM (rowRect b).toLoadRect (View.loadsAt_vmem h_S1x128x512)) fun (_ : Vec F S1x128x512 .f32) =>
  .op (.store outM (rowRect b) (batchOut (F := F) mk wq x k0 v0 w0 k1 v1 w1 k2 v2 w2 k3 v3 w3) Finset.univ
    (View.stores_vmem_bits_univ h_S1x128x512 rfl) (.inl rfl)) .ret

/-- Column half `h` of the result is cast into the send slot and copied to device `d`. -/
def sendStep (h : Fin 2) (k : Fin 5) (d : Dev nD) : KProg (F := F) PUnit :=
  .op (.load outM (halfRect h).toLoadRect (View.loadsAt_vmem h_S2x128x256)) fun (v : Vec F S2x128x256 .f32) =>
  .op (.load sendM (slotRect h k).toLoadRect (View.loadsAt_vmem h_S1x1x2x128x256)) fun (_ : Vec F S1x1x2x128x256 .bf16) =>
  .op (.store sendM (slotRect h k) (castV v) Finset.univ
    (View.stores_vmem h_S1x1x2x128x256 ((Memref.isWhole_whole cc0_scratch0).storeExact_slice rfl _ (slot_packed h k)) (fun _ => rfl)) (.inl rfl)) fun _ =>
  .op (.enqueueDma (slotM sendM h k) (.remote (Dev.tc d) (slotM commM h k) (.dma (sendS h k))) (.dma (recvS h k))
    (slot_exact _ (Memref.isWhole_whole _) h k) (slot_exact _ (Memref.isWhole_whole _) h k) ⟨⟨rfl, Or.inl rfl⟩, trivial⟩) .ret

/-- Both ends of the exchange are waited for and what arrived is added to column half `h`. -/
def recvStep (h : Fin 2) (k : Fin 5) : KProg (F := F) PUnit :=
  .op (.waitDma2 (sendS h k) (slotM commM h k) (slotM sendM h k)
    (slot_exact _ (Memref.isWhole_whole _) h k) (slot_exact _ (Memref.isWhole_whole _) h k)) fun _ =>
  .op (.waitDma2 (recvS h k) (slotM sendM h k) (slotM commM h k)
    (slot_exact _ (Memref.isWhole_whole _) h k) (slot_exact _ (Memref.isWhole_whole _) h k)) fun _ =>
  .op (.load outM (halfRect h).toLoadRect (View.loadsAt_vmem h_S2x128x256)) fun (v : Vec F S2x128x256 .f32) =>
  .op (.load commM (slotRect h k).toLoadRect (View.loadsAt_vmem h_S1x1x2x128x256)) fun (w : Vec F S1x1x2x128x256 .bf16) =>
  .op (.load outM (halfRect h).toLoadRect (View.loadsAt_vmem h_S2x128x256)) fun (_ : Vec F S2x128x256 .f32) =>
  .op (.store outM (halfRect h) (addV v w) Finset.univ (View.stores_vmem_bits_univ h_S2x128x256 rfl) (.inl rfl)) .ret

/-- One stage: both halves are sent, then both are received. -/
def stage (k : Fin 5) (d d' : Dev nD) : KProg (F := F) PUnit := do
  sendStep 0 k d
  sendStep 1 k d'
  recvStep 0 k
  recvStep 1 k

/-- The five stages; the partners' numbers are handed in. -/
def stages (d6 d7 d8 d9 d10 d11 d12 d13 d14 d15 : Dev nD) : KProg (F := F) PUnit := do
  stage 0 d6 d7
  stage 1 d8 d9
  stage 2 d10 d11
  stage 3 d12 d13
  stage 4 d14 d15

/-- The barrier: five signals, one wait. -/
def barrier (d1 d2 d3 d4 d5 : Dev nD) : KProg (F := F) PUnit :=
  .op (.semSignal (d1, .tc) barS ((1 : ℕ) : ℤ)) fun _ =>
  .op (.semSignal (d2, .tc) barS ((1 : ℕ) : ℤ)) fun _ =>
  .op (.semSignal (d3, .tc) barS ((1 : ℕ) : ℤ)) fun _ =>
  .op (.semSignal (d4, .tc) barS ((1 : ℕ) : ℤ)) fun _ =>
  .op (.semSignal (d5, .tc) barS ((1 : ℕ) : ℤ)) fun _ =>
  .op (.semWait barS ((5 : ℕ) : ℤ)) .ret

/-- The two batches of attention. -/
def attn : KProg (F := F) PUnit :=
  .op (.load wqM (Rect.unit (s := S512x256) ![0, 0] S512x256.size inb_S512x256_S512x256_0_0).toLoadRect (View.loadsAt_vmem h_S512x256)) fun (wq : Vec F S512x256 .bf16) => do
  attnBatch 0 maskV wq
  attnBatch 1 maskV wq

/-- The kernel as straight steps. -/
def flat : KProg (F := F) PUnit :=
  .op .deviceId fun d => do
  attn
  barrier ⟨k0_dev1 d, k0_dev1_lt d⟩ ⟨k0_dev2 d, k0_dev2_lt d⟩ ⟨k0_dev3 d, k0_dev3_lt d⟩ ⟨k0_dev4 d, k0_dev4_lt d⟩ ⟨k0_dev5 d, k0_dev5_lt d⟩
  stages ⟨k0_dev6 d, k0_dev6_lt d⟩ ⟨k0_dev7 d, k0_dev7_lt d⟩ ⟨k0_dev8 d, k0_dev8_lt d⟩ ⟨k0_dev9 d, k0_dev9_lt d⟩ ⟨k0_dev10 d, k0_dev10_lt d⟩
    ⟨k0_dev11 d, k0_dev11_lt d⟩ ⟨k0_dev12 d, k0_dev12_lt d⟩ ⟨k0_dev13 d, k0_dev13_lt d⟩ ⟨k0_dev14 d, k0_dev14_lt d⟩ ⟨k0_dev15 d, k0_dev15_lt d⟩

set_option maxRecDepth 65536 in
set_option maxHeartbeats 4000000 in
/-- The printed kernel on its staging buffers is the straight program. -/
theorem body_eq_flat :
    cc0__body (F := F) xM (Memref.isWhole_whole _) wqM (Memref.isWhole_whole _) kM (Memref.isWhole_whole _) vM (Memref.isWhole_whole _)
      woM (Memref.isWhole_whole _) outM (Memref.isWhole_whole _) sendM (Memref.isWhole_whole _) commM (Memref.isWhole_whole _)
      cc0_scratch2 cc0_scratch3 = flat := by
  rw [Gen.cc0__body_eq_skeleton]
  rfl

end Cert.KProof
-- ==== Proof.Proto.lean ====
module

public import proofs.«01_k».proof.Proof.Flat
public import Idealize.ShloMosaic.Lib.Pipeline.Regions
public import Idealize.ShloMosaic.Lib.Pipeline.Kit
public import Idealize.ShloMosaic.Lib.Pipeline.Value
public import Idealize.ShloMosaic.Lib.Rounds
public import Idealize.ShloMosaic.Lib.StableHlo
public import Idealize.ShloMosaic.Lib.Tactic
public import Idealize.ShloMosaic.Lib.Pipeline.RegionTalk

@[expose] public section

set_option maxRecDepth 16384

noncomputable section

/-! # The exchange protocol

Every device has a barrier counter and, for each column half and stage, a counter for its own send
and a counter for the arrival. The barrier hands a partner's ten arrival slots over, two per
partner; each arrival hands a slot back, holding the partner's partial sum of that stage. -/

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal
open Cert.KernelIdeal.Facts₀ Cert.KernelIdeal.Facts

variable {F : FTy → Type} [FloatOps F]

/-- The pipeline's counters beside the exchange's, whose duties are numbered below five. -/
abbrev UU : Type := UR sig nD τ × URounds (GSem nD τ sig) (Fin 5)

local notation "𝕄" => MT nD τ sig Unit (Elt F) ℕ UU ℕ

abbrev EP : Emb (UR sig nD τ) (MT nD τ sig Unit (Elt F) ℕ UU ℕ) := embL
abbrev ER : Emb (URounds (GSem nD τ sig) (Fin 5)) (MT nD τ sig Unit (Elt F) ℕ UU ℕ) := embR

/-! ## Cells -/

abbrev barCell (c : Dev nD) : GSem nD τ sig := ((c : Thread nD τ), .reg barS)
abbrev sendCell (c : Dev nD) (h : Fin 2) (k : Fin 5) : GSem nD τ sig := ((c : Thread nD τ), .dma (sendS h k))
abbrev recvCell (c : Dev nD) (h : Fin 2) (k : Fin 5) : GSem nD τ sig := ((c : Thread nD τ), .dma (recvS h k))

/-- Which exchange a copy semaphore belongs to: arrival or send, half, stage. -/
def decode (s : DmaSem sig) : Option (Bool × Fin 2 × Fin 5) :=
  if 16 ≤ s.val then some (true, ⟨(s.val - 16) / 5 % 2, Nat.mod_lt _ (by decide)⟩, ⟨(s.val - 16) % 5, Nat.mod_lt _ (by decide)⟩)
  else if 6 ≤ s.val then some (false, ⟨(s.val - 6) / 5 % 2, Nat.mod_lt _ (by decide)⟩, ⟨(s.val - 6) % 5, Nat.mod_lt _ (by decide)⟩)
  else none

theorem decode_send (h : Fin 2) (k : Fin 5) : decode (sendS h k) = some (false, h, k) := by revert h k; decide
theorem decode_recv (h : Fin 2) (k : Fin 5) : decode (recvS h k) = some (true, h, k) := by revert h k; decide

/-- What a copy of one slot counts. -/
abbrev N : ℕ := (slotM commM 0 0).view.dmaCredit
theorem N_pos : 0 < N := View.dmaCredit_pos _ (by decide)
theorem credit_comm (h : Fin 2) (k : Fin 5) : (slotM commM h k).view.dmaCredit = N := rfl
theorem credit_send (h : Fin 2) (k : Fin 5) : (slotM sendM h k).view.dmaCredit = N := rfl

/-! ## Contents -/

/-- What is on the wire: the half, cast. -/
def msg (v : Vec F S2x128x256 .f32) : S2x128x256.Idx → Elt F .bf16 :=
  shapeCast S2x128x256 (castV v) shapeCasts_S1x1x2x128x256_S2x128x256
/-- What is kept: the half plus what arrived. -/
def addS (v : Vec F S2x128x256 .f32) (w : FVec F S2x128x256 .bf16) : FVec F S2x128x256 .f32 :=
  addf (shapeCast S2x128x256 v shapeCasts_S2x128x256_S2x128x256) (extf .f32 w bitsLt_bf16_f32)

theorem addV_eq (v : Vec F S2x128x256 .f32) (w : Vec F S1x1x2x128x256 .bf16) :
    addV v w = addS v (shapeCast S2x128x256 w shapeCasts_S1x1x2x128x256_S2x128x256) := rfl

/-- Column half `h` on device `c` before stage `k`, from the halves `P` the devices start with. -/
def A (P : Fin 2 → Dev nD → Vec F S2x128x256 .f32) (h : Fin 2) : ℕ → Dev nD → Vec F S2x128x256 .f32
  | 0, c => P h c
  | k + 1, c => addS (A P h k c) (msg (A P h k (peer (ord h (Fin.ofNat 5 k)) c)))

theorem A_succ (P : Fin 2 → Dev nD → Vec F S2x128x256 .f32) (h : Fin 2) (k : Fin 5) (c : Dev nD) :
    A P h (k.val + 1) c = addS (A P h k.val c) (msg (A P h k.val (peer (ord h k) c))) := by
  show addS _ (msg (A P h k.val (peer (ord h (Fin.ofNat 5 k.val)) c))) = _
  rw [show (Fin.ofNat 5 k.val) = k from by revert k; decide]

/-! ## Slots -/

/-- Slot `(h, k)` of a communication buffer on device `c`, holding contents `f` of the buffer. -/
abbrev slotPts (M : Memref sig .tc .vmem S2x5x2x128x256 .bf16) (c : Dev nD) (h : Fin 2) (k : Fin 5)
    (f : Buf (Elt F) ((slotM M h k).view.loc (c : Thread nD τ))) : sProp 𝕄 :=
  (slotM M h k).view.loc (c : Thread nD τ) ↦[(slotM M h k).view.set]{fullShare} f

/-- Slot `(h, k)` at some contents. -/
def slotAny (M : Memref sig .tc .vmem S2x5x2x128x256 .bf16) (c : Dev nD) (h : Fin 2) (k : Fin 5) : sProp 𝕄 :=
  iprop(∃ f, slotPts (F := F) M c h k f)

/-- Slot `(h, k)` at contents that read `x`. -/
def slotAt (M : Memref sig .tc .vmem S2x5x2x128x256 .bf16) (c : Dev nD) (h : Fin 2) (k : Fin 5)
    (x : S2x128x256.Idx → Elt F .bf16) : sProp 𝕄 :=
  iprop(∃ f, ⌜(slotM M h k).view.read (Elt F) f = x⌝ ∗ slotPts (F := F) M c h k f)

instance slotAny_storable (M : Memref sig .tc .vmem S2x5x2x128x256 .bf16) (c : Dev nD) (h : Fin 2) (k : Fin 5) :
    BI.Storable (upEmb : UEmb _ 𝕄) (slotAny (F := F) M c h k) := by unfold slotAny; infer_instance
instance slotAt_storable (M : Memref sig .tc .vmem S2x5x2x128x256 .bf16) (c : Dev nD) (h : Fin 2) (k : Fin 5)
    (x : S2x128x256.Idx → Elt F .bf16) :
    BI.Storable (upEmb : UEmb _ 𝕄) (slotAt (F := F) M c h k x) := by unfold slotAt; infer_instance

/-! ## The schedule -/

section Sched

variable (P : Fin 2 → Dev nD → Vec F S2x128x256 .f32)

/-- Paid to device `c`'s barrier across bit `s`: the partner's two arrival slots used across that bit. -/
def barPay (c : Dev nD) (s : Fin 5) : sProp 𝕄 :=
  iprop((slotAny (F := F) commM (peer s c) 0 (stageOf 0 s) ∗ reached ER (recvCell (peer s c) 0 (stageOf 0 s)) 0)
    ∗ (slotAny (F := F) commM (peer s c) 1 (stageOf 1 s) ∗ reached ER (recvCell (peer s c) 1 (stageOf 1 s)) 0))
/-- Paid to device `c`'s arrival counter: the slot, holding the partner's half of that stage. -/
def recvPay (c : Dev nD) (h : Fin 2) (k : Fin 5) : sProp 𝕄 :=
  slotAt commM c h k (msg (A P h k.val (peer (ord h k) c)))
/-- Paid to device `c`'s send counter: the send slot back. -/
def sendPay (c : Dev nD) (h : Fin 2) (k : Fin 5) : sProp 𝕄 := slotAny (F := F) sendM c h k

/-- The payload of a copy semaphore. -/
def dmaPay (c : Dev nD) : Option (Bool × Fin 2 × Fin 5) → sProp 𝕄
  | some (true, h, k) => recvPay P c h k
  | some (false, h, k) => sendPay (F := F) c h k
  | none => iprop(emp)

instance dmaPay_storable (c : Dev nD) (o : Option (Bool × Fin 2 × Fin 5)) : BI.Storable (upEmb : UEmb _ 𝕄) (dmaPay P c o) := by
  unfold dmaPay recvPay sendPay; split <;> infer_instance
instance barPay_storable (c : Dev nD) (s : Fin 5) : BI.Storable (upEmb : UEmb _ 𝕄) (barPay (F := F) c s) := by
  unfold barPay; infer_instance

/-- Which duties a semaphore has in its only round. -/
def dutiesOf : SemLoc sig → Finset (Fin 5)
  | .reg s => if s = barS then Finset.univ else ∅
  | .dma s => if (decode s).isSome then {0} else ∅

/-- One round on every cell: five units on a barrier, one copy on every send and arrival cell. -/
def talkRd : Rounds.Schedule (GSem nD τ sig) (Fin 5) 𝕄 where
  duties g r := if r = 0 ∧ g.1.2 = .tc then dutiesOf g.2 else ∅
  unitless _ := False
  amount g _ _ := match g.2 with | .reg _ => 1 | .dma _ => N
  payload g _ d := match g.2 with | .reg _ => barPay (F := F) g.1.1 d | .dma s => dmaPay P g.1.1 (decode s)
  amount_pos g _ _ _ := by
    split
    · exact Nat.one_pos
    · exact N_pos

instance talkRd_payload_storable (g : GSem nD τ sig) (r : ℕ) (d : Fin 5) :
    BI.Storable (upEmb : UEmb _ 𝕄) ((talkRd P).payload g r d) := by
  show BI.Storable upEmb (match g.2 with | .reg _ => barPay (F := F) g.1.1 d | .dma s => dmaPay P g.1.1 (decode s))
  split <;> infer_instance

variable (c : Dev nD) (h : Fin 2) (k : Fin 5)

theorem duties_bar : (talkRd P).duties (barCell c) 0 = Finset.univ := by
  dsimp only [talkRd]; rw [if_pos ⟨rfl, rfl⟩]
  show (if barS = barS then Finset.univ else ∅) = _
  exact if_pos rfl
theorem duties_send : (talkRd P).duties (sendCell c h k) 0 = {0} := by
  dsimp only [talkRd]; rw [if_pos ⟨rfl, rfl⟩]; exact if_pos (by rw [decode_send]; rfl)
theorem duties_recv : (talkRd P).duties (recvCell c h k) 0 = {0} := by
  dsimp only [talkRd]; rw [if_pos ⟨rfl, rfl⟩]; exact if_pos (by rw [decode_recv]; rfl)
theorem duties_later (g : GSem nD τ sig) : ∀ r, 1 ≤ r → (talkRd P).duties g r = ∅ :=
  fun r hr => by dsimp only [talkRd]; rw [if_neg (fun h => by omega)]

theorem amount_bar (d : Fin 5) : (talkRd P).amount (barCell c) 0 d = 1 := rfl
theorem amount_send (d : Fin 5) : (talkRd P).amount (sendCell c h k) 0 d = N := rfl
theorem amount_recv (d : Fin 5) : (talkRd P).amount (recvCell c h k) 0 d = N := rfl

theorem expect_bar : (talkRd P).expect (barCell c) 0 = 5 := by
  unfold Schedule.expect Schedule.amountOf; rw [duties_bar]; simp only [amount_bar]; rfl
theorem expect_send : (talkRd P).expect (sendCell c h k) 0 = N := by
  unfold Schedule.expect Schedule.amountOf; rw [duties_send, Finset.sum_singleton, amount_send]
theorem expect_recv : (talkRd P).expect (recvCell c h k) 0 = N := by
  unfold Schedule.expect Schedule.amountOf; rw [duties_recv, Finset.sum_singleton, amount_recv]

theorem payload_bar (d : Fin 5) : (talkRd P).payload (barCell c) 0 d = barPay c d := rfl
theorem payload_send (d : Fin 5) : (talkRd P).payload (sendCell c h k) 0 d = sendPay c h k := by
  show dmaPay P c (decode (sendS h k)) = _; rw [decode_send]; rfl
theorem payload_recv (d : Fin 5) : (talkRd P).payload (recvCell c h k) 0 d = recvPay P c h k := by
  show dmaPay P c (decode (recvS h k)) = _; rw [decode_recv]; rfl

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem rest_bar : bigSep ((talkRd P).duties (barCell c) 0 \ ∅) (fun d => (talkRd P).payload (barCell c) 0 d)
    = iprop(barPay c 0 ∗ barPay c 1 ∗ barPay c 2 ∗ barPay c 3 ∗ barPay c 4) := by
  rw [Finset.sdiff_empty, duties_bar]; exact bigSep_fin5 _
theorem rest_send : bigSep ((talkRd P).duties (sendCell c h k) 0 \ ∅) (fun d => (talkRd P).payload (sendCell c h k) 0 d) = sendPay c h k := by
  rw [Finset.sdiff_empty, duties_send, bigSep_singleton, payload_send]
theorem rest_recv : bigSep ((talkRd P).duties (recvCell c h k) 0 \ ∅) (fun d => (talkRd P).payload (recvCell c h k) 0 d) = recvPay P c h k := by
  rw [Finset.sdiff_empty, duties_recv, bigSep_singleton, payload_recv]

end Sched

/-! ## What each device owes; the levels -/

/-- The unit device `c` owes its partner's barrier across bit `s`. -/
abbrev owesBar (c : Dev nD) (s : Fin 5) : CellTallies nD τ sig Unit := tallyAt (barCell (peer s c)) () 1
/-- The copy device `c` owes its partner in stage `k` for half `h`. -/
abbrev owesRecv (c : Dev nD) (h : Fin 2) (k : Fin 5) : CellTallies nD τ sig Unit := tallyAt (recvCell (peer (ord h k) c) h k) () N

/-- What is owed in the stages from `k` on. -/
def due (c : Dev nD) (k : ℕ) : CellTallies nD τ sig Unit :=
  ∑ i ∈ Finset.univ.filter (fun i : Fin 5 => k ≤ i.val), (owesRecv c 1 i + owesRecv c 0 i)

theorem due_step (c : Dev nD) (k : Fin 5) : due c k.val = due c (k.val + 1) + owesRecv c 1 k + owesRecv c 0 k := by
  unfold due
  rw [show Finset.univ.filter (fun i : Fin 5 => k.val ≤ i.val) = insert k (Finset.univ.filter (fun i : Fin 5 => k.val + 1 ≤ i.val)) from by
    ext i; simp only [Finset.mem_filter, Finset.mem_univ, true_and, Finset.mem_insert, Fin.ext_iff]; omega]
  rw [Finset.sum_insert (by simp), add_comm, add_assoc]

theorem due_end (c : Dev nD) : due c 5 = 0 := by
  unfold due
  rw [show Finset.univ.filter (fun i : Fin 5 => 5 ≤ i.val) = ∅ from by decide, Finset.sum_empty]

/-- A debt from stage `k` on is to an arrival cell of stage `k` or later. -/
theorem due_mem (c : Dev nD) (k : ℕ) (g : GSem nD τ sig) (u : Unit) (hg : 0 < due c k g u) :
    ∃ (h : Fin 2) (i : Fin 5), k ≤ i.val ∧ g = recvCell (peer (ord h i) c) h i := by
  unfold due at hg
  rw [Finset.sum_apply, Finsupp.finset_sum_apply] at hg
  obtain ⟨i, hi, hne⟩ := Finset.exists_ne_zero_of_sum_ne_zero (Nat.pos_iff_ne_zero.mp hg)
  have hk := (Finset.mem_filter.mp hi).2
  rw [Pi.add_apply, Finsupp.add_apply, tallyAt_apply, tallyAt_apply] at hne
  by_cases h1 : g = recvCell (peer (ord 1 i) c) 1 i
  · exact ⟨1, i, hk, h1⟩
  · by_cases h0 : g = recvCell (peer (ord 0 i) c) 0 i
    · exact ⟨0, i, hk, h0⟩
    · rw [if_neg (fun h => h1 h.1), if_neg (fun h => h0 h.1)] at hne; exact absurd rfl hne

/-- Everything device `c` owes at the start. -/
def O₀ (c : Dev nD) : CellTallies nD τ sig Unit :=
  due c 0 + owesBar c 4 + owesBar c 3 + owesBar c 2 + owesBar c 1 + owesBar c 0

def L (g : GSem nD τ sig) : Finset Unit := if g.1.2 = .tc then {()} else ∅

/-- Sends and staging at 0, barriers at 1, arrivals of stage `k` at `2 + k`. -/
def lvOf : SemLoc sig → ℕ
  | .reg _ => 1
  | .dma s => match decode s with | some (true, _, k) => 2 + k.val | _ => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (c : Dev nD) (h : Fin 2) (k : Fin 5) (u : Unit) : lv (recvCell c h k) u = 2 + k.val := by
  show lvOf _ = _; unfold lvOf; dsimp only; rw [decode_recv]
theorem lv_send (c : Dev nD) (h : Fin 2) (k : Fin 5) (u : Unit) : lv (sendCell c h k) u = 0 := by
  show lvOf _ = _; unfold lvOf; dsimp only; rw [decode_send]

/-- A wait on a cell below the arrivals of stage `k` is safe while debts from stage `k` on remain. -/
theorem mayWait (c : Dev nD) (sm : SemLoc sig) (k : ℕ) (hl : lvOf sm < 2 + k) :
    (levAts L lv : sProp 𝕄) ⊢ MayWait (c : Thread nD τ) sm () (due c k) :=
  MayOwe.of_cut (L := L) (lev := lv) (lvOf sm)
    (fun p hp => by rw [Finset.mem_singleton.mp hp, L_tc]; exact Finset.mem_singleton_self _)
    (fun g u hg => by obtain ⟨h, i, -, rfl⟩ := due_mem c k g u hg; rw [L_tc]; exact Finset.mem_singleton_self _)
    (fun p hp => by rw [Finset.mem_singleton.mp hp]; exact Nat.le_refl _)
    (fun g u hg => by obtain ⟨h, i, hi, rfl⟩ := due_mem c k g u hg; rw [lv_recv]; omega)

/-- A debt at the start is to an arrival cell or to a barrier. -/
theorem O₀_mem (c : Dev nD) (g : GSem nD τ sig) (u : Unit) (hg : 0 < O₀ c g u) : g.1.2 = .tc ∧ 0 < lv g u := by
  have hb (s : Fin 5) (hs : 0 < owesBar c s g u) : g.1.2 = .tc ∧ 0 < lv g u := by
    rw [tallyAt_apply] at hs
    by_cases h : g = barCell (peer s c) ∧ u = ()
    · rw [h.1]; exact ⟨rfl, by rw [lv_bar]; decide⟩
    · rw [if_neg h] at hs; exact absurd hs (Nat.lt_irrefl 0)
  have hd (hs : 0 < due c 0 g u) : g.1.2 = .tc ∧ 0 < lv g u := by
    obtain ⟨h, i, -, rfl⟩ := due_mem c 0 g u hs; exact ⟨rfl, by rw [lv_recv]; omega⟩
  unfold O₀ at hg
  simp only [Pi.add_apply, Finsupp.add_apply] at hg
  by_cases h0 : 0 < owesBar c 0 g u; · exact hb 0 h0
  by_cases h1 : 0 < owesBar c 1 g u; · exact hb 1 h1
  by_cases h2 : 0 < owesBar c 2 g u; · exact hb 2 h2
  by_cases h3 : 0 < owesBar c 3 g u; · exact hb 3 h3
  by_cases h4 : 0 < owesBar c 4 g u; · exact hb 4 h4
  exact hd (by omega)

end Cert.KProof
-- ==== Proof.Steps.lean ====
module

public import proofs.«01_k».proof.Proof.Proto

@[expose] public section

set_option maxRecDepth 16384

noncomputable section

/-! # One half-step of the exchange

A send half-step and a receive half-step, each proved once at a symbolic half, stage and device. -/

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal
open Cert.KernelIdeal.Facts₀ Cert.KernelIdeal.Facts

variable {F : FTy → Type} [FloatOps F]

local notation "𝕄" => MT nD τ sig Unit (Elt F) ℕ UU ℕ

abbrev 𝒱₀ : Variants := Variants.none

/-! ## The result buffer by halves -/

/-- Column half `h` of the result buffer's contents. -/
abbrev half (h : Fin 2) (o : (cc0_stg5_0 : Ref sig .tc).ty.Contents (Elt F)) : Vec F S2x128x256 .f32 :=
  (outM.access (halfRect h)).read (Elt F) o

/-- Device `c`'s result buffer at contents `o`. -/
abbrev outPts (c : Dev nD) (o : Buf (Elt F) (outM.view.loc (c : Thread nD τ))) : sProp 𝕄 :=
  outM.view.loc (c : Thread nD τ) ↦{fullShare} o

/-- Device `c`'s result buffer with its two halves at `a`. -/
def outAt (c : Dev nD) (a : Fin 2 → Vec F S2x128x256 .f32) : sProp 𝕄 :=
  iprop(∃ o, ⌜∀ h, half h o = a h⌝ ∗ outPts c o)

/-- The two halves share no element. -/
theorem half_disjoint (h h' : Fin 2) (hne : h' ≠ h) (v : View sig .tc .vmem S2x128x512 .f32) :
    Disjoint (v.slice (halfRect h')).set ((v.slice (halfRect h)).setOn Finset.univ) := by
  rw [View.setOn_univ, View.set_slice, View.set_slice, Finset.disjoint_map, Finset.disjoint_left]
  intro i hi hi'
  rw [Rect.mem_set_unit] at hi hi'
  have h1 := hi 2; have h2 := hi' 2
  have e1 : (![0, 0, 256 * h'.val] : Fin 3 → ℕ) 2 = 256 * h'.val := rfl
  have e2 : (![0, 0, 256 * h.val] : Fin 3 → ℕ) 2 = 256 * h.val := rfl
  have e3 : S2x128x256.size 2 = 256 := rfl
  rw [e1, e3] at h1; rw [e2, e3] at h2
  exact hne (Fin.ext (by omega))

/-- Writing half `h` sets it, -/
theorem half_write_same (h : Fin 2) (o : (cc0_stg5_0 : Ref sig .tc).ty.Contents (Elt F)) (w : Vec F S2x128x256 .f32) :
    half h ((outM.access (halfRect h)).write (Elt F) o w Finset.univ) = w := View.read_write_univ _ _
/-- and leaves the other. -/
theorem half_write_other (h h' : Fin 2) (hne : h' ≠ h) (o : (cc0_stg5_0 : Ref sig .tc).ty.Contents (Elt F)) (w : Vec F S2x128x256 .f32) :
    half h' ((outM.access (halfRect h)).write (Elt F) o w Finset.univ) = half h' o :=
  View.read_slice_write_slice_of_disjoint _ _ _ _ _ (half_disjoint h h' hne outM.view)

/-! ## Sending -/

variable (P : Fin 2 → Dev nD → Vec F S2x128x256 .f32)

set_option maxHeartbeats 1000000 in
/-- A send half-step takes the partner's arrival slot and the own send slot, and keeps the result as it is. -/
theorem send_run (κ₁ κ₂ : ℕ) (c : Dev nD) (h : Fin 2) (k : Fin 5) (a : Fin 2 → Vec F S2x128x256 .f32) (ha : a h = A P h k.val c)
    (O : CellTallies nD τ sig Unit) (W : Waits sig Unit) (Q : PUnit → sProp 𝕄) :
    iprop((cellInv ER (talkRd P) κ₁ (sendCell c h k) ∗ cellInv ER (talkRd P) κ₂ (recvCell (peer (ord h k) c) h k)
        ∗ outAt c a ∗ slotAny (F := F) sendM c h k ∗ slotAny (F := F) commM (peer (ord h k) c) h k ∗ owes (c : Thread nD τ) (O + owesRecv c h k) W
        ∗ dutyTok ER (sendCell c h k) 0 0 ∗ reached ER (sendCell c h k) 0
        ∗ dutyTok ER (recvCell (peer (ord h k) c) h k) 0 0 ∗ reached ER (recvCell (peer (ord h k) c) h k) 0)
      ∗ ((outAt c a ∗ cred (tallyAt (sendCell c h k) () N) ∗ owes (c : Thread nD τ) O W) -∗ Q ⟨⟩))
    ⊢ wp frame (wpE (defs₀ (F := F)) 𝒱₀ c none) Set.univ (sendStep (F := F) h k (peer (ord h k) c)) Q := by
  unfold sendStep outAt slotAny
  iintro ⟨⟨#HI1, #HI2, ⟨%o, %ho, Hout⟩, ⟨%fs, Hs⟩, ⟨%fd, Hd⟩, HO, Ht1, #Hr1, Ht2, #Hr2⟩, Hk⟩
  iapply (wp_load_rect 𝒱₀ (c : Thread nD τ) none Set.univ (m := outM) (r := halfRect h) (S := Finset.univ) (f := o) (Finset.subset_univ _)) $$ Hout
  iintro Hout
  iapply (wp_load_rect 𝒱₀ (c : Thread nD τ) none Set.univ (m := sendM) (r := slotRect h k) (S := (slotM sendM h k).view.set) (f := fs)
    (by rw [View.set_reshape])) $$ Hs
  iintro Hs
  iapply (wp_store 𝒱₀ (c : Thread nD τ) none Set.univ (m := sendM) (r := slotRect h k) (Mk := Finset.univ) (S := (slotM sendM h k).view.set) (f := fs)
    (by rw [View.setOn_univ, View.set_reshape])) $$ Hs
  iintro Hs
  have hmsg : ∀ f : (cc0_scratch0 : Ref sig .tc).ty.Contents (Elt F),
      (slotM sendM h k).view.read (Elt F) ((sendM.access (slotRect h k)).write (Elt F) f (castV (half h o)) Finset.univ)
        = msg (A P h k.val c) := by
    intro f
    have e := Memref.read_squeeze_slice (Val := Elt F) sendM (slotRect h k) (fun _ => rfl) squeezes_S1x1x2x128x256_S2x128x256
      shapeCasts_S1x1x2x128x256_S2x128x256 ((sendM.access (slotRect h k)).write (Elt F) f (castV (half h o)) Finset.univ)
    rw [View.readAt_rect, View.read_write_univ] at e
    rw [e, ho h, ha]; rfl
  iapply (Rounds.wp_send_pointsTo 𝒱₀ ER (talkRd P) (c : Thread nD τ) none (c' := (peer (ord h k) c : Thread nD τ)) (src := slotM sendM h k) (dst := slotM commM h k)
      (sS := .dma (sendS h k)) (sem := .dma (recvS h k)) (q := fullShare) (κ₁ := κ₁) (κ₂ := κ₂)
      (fs := (sendM.access (slotRect h k)).write (Elt F) fs (castV (half h o)) Finset.univ)
      (r₁ := 0) (r₂ := 0) (d₁ := 0) (d₂ := 0) (fd := fd)
      (by rw [duties_send]; exact Finset.mem_singleton_self _) (by rw [duties_recv]; exact Finset.mem_singleton_self _)
      () () N rfl (amount_send P c h k 0) (amount_recv P (peer (ord h k) c) h k 0) O rfl (W := W)
      (by
        rw [payload_send]; unfold sendPay slotAny
        iintro H; iexists _; iexact H)
      (by
        rw [payload_recv]; unfold recvPay slotAt; rw [peer_peer]
        iintro H; iexists _
        isplitr; swap; iexact H
        ipureintro
        rw [View.read_write_univ]; exact hmsg fs)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]
  imodintro
  iapply Hk
  isplitl [Hout]
  · iexists o
    isplitr; · ipureintro; exact ho
    iexact Hout
  isplitl [Hc]; · iexact Hc
  iexact HO

/-! ## Receiving -/

/-- The halves after half `h` is replaced. -/
def setHalf (a : Fin 2 → Vec F S2x128x256 .f32) (h : Fin 2) (v : Vec F S2x128x256 .f32) : Fin 2 → Vec F S2x128x256 .f32 :=
  fun h' => if h' = h then v else a h'

set_option maxHeartbeats 1000000 in
/-- A receive half-step waits for both copies, adds what arrived to its half, and ends with both slots back. -/
theorem recv_run (κ₁ κ₂ : ℕ) (c : Dev nD) (h : Fin 2) (k : Fin 5) (a : Fin 2 → Vec F S2x128x256 .f32) (ha : a h = A P h k.val c)
    (W : Waits sig Unit) (Q : PUnit → sProp 𝕄) :
    iprop((cellInv ER (talkRd P) κ₁ (sendCell c h k) ∗ cellInv ER (talkRd P) κ₂ (recvCell c h k) ∗ levAts L lv
        ∗ outAt c a ∗ cred (tallyAt (sendCell c h k) () N) ∗ cred (tallyAt (recvCell c h k) () N)
        ∗ owes (c : Thread nD τ) (due c (k.val + 1)) W
        ∗ atPos ER (sendCell c h k) 0 ∅ 0 ∗ atPos ER (recvCell c h k) 0 ∅ 0)
      ∗ ((outAt c (setHalf a h (A P h (k.val + 1) c)) ∗ slotAny (F := F) sendM c h k ∗ slotAny (F := F) commM c h k
          ∗ semVal (sendCell c h k) 0 ∗ semVal (recvCell c h k) 0
          ∗ ∃ W', owes (c : Thread nD τ) (due c (k.val + 1)) W') -∗ Q ⟨⟩))
    ⊢ wp frame (wpE (defs₀ (F := F)) 𝒱₀ c none) Set.univ (recvStep (F := F) h k) Q := by
  unfold recvStep outAt
  iintro ⟨⟨#HI1, #HI2, #Hlev, ⟨%o, %ho, Hout⟩, Hc1, Hc2, HO, Ha1, Ha2⟩, Hk⟩
  iapply (Rounds.wp_wait_rest_token 𝒱₀ ER (talkRd P) (c : Thread nD τ) none (k' := N) (κ := κ₁)
      (wpE_waitDma2_eq (src := slotM commM h k) (dst := slotM sendM h k) 𝒱₀ (c : Thread nD τ) none Set.univ) (Set.mem_univ _) () (O := due c (k.val + 1)) (W := W) (R := 0) (m := 0) (T := ∅)
      ((Nat.zero_add _).trans (expect_send P c h k).symm)) $$ [Hc1 HO Ha1]
  · isplitr; · iexact HI1
    isplitl [Hc1]; · iexact Hc1
    isplitl [HO]; · iexact HO
    isplitr
    · iapply (mayWait c (.dma (sendS h k)) (k.val + 1) (lt_of_eq_of_lt (lv_send c h k ()) (by omega))); iexact Hlev
    iexact Ha1
  iintro ⟨HO, Ha1, -, Hpay⟩
  ihave Hs := (Entails.of_eq (rest_send P c h k)) $$ Hpay
  iapply (Rounds.wp_wait_rest_token 𝒱₀ ER (talkRd P) (c : Thread nD τ) none (k' := N) (κ := κ₂)
      (wpE_waitDma2_eq (src := slotM sendM h k) (dst := slotM commM h k) 𝒱₀ (c : Thread nD τ) none Set.univ) (Set.mem_univ _) () (O := due c (k.val + 1))
      (W := insert (SemLoc.dma (sendS h k), ()) W) (R := 0) (m := 0) (T := ∅)
      ((Nat.zero_add _).trans (expect_recv P c h k).symm)) $$ [Hc2 HO Ha2]
  · isplitr; · iexact HI2
    isplitl [Hc2]; · iexact Hc2
    isplitl [HO]; · iexact HO
    isplitr
    · iapply (mayWait c (.dma (recvS h k)) (k.val + 1) (lt_of_eq_of_lt (lv_recv c h k ()) (by omega))); iexact Hlev
    iexact Ha2
  iintro ⟨HO, Ha2, -, Hpay⟩
  ihave Hr := (Entails.of_eq (rest_recv P c h k)) $$ Hpay
  unfold sendPay recvPay slotAt
  icases Hr with ⟨%fr, %hfr, Hr⟩
  iapply (wp_load_rect 𝒱₀ (c : Thread nD τ) none Set.univ (m := outM) (r := halfRect h) (S := Finset.univ) (f := o) (Finset.subset_univ _)) $$ Hout
  iintro Hout
  iapply (wp_load_rect 𝒱₀ (c : Thread nD τ) none Set.univ (m := commM) (r := slotRect h k) (S := (slotM commM h k).view.set) (f := fr)
    (by rw [View.set_reshape])) $$ Hr
  iintro Hr
  iapply (wp_load_rect 𝒱₀ (c : Thread nD τ) none Set.univ (m := outM) (r := halfRect h) (S := Finset.univ) (f := o) (Finset.subset_univ _)) $$ Hout
  iintro Hout
  iapply (wp_store 𝒱₀ (c : Thread nD τ) none Set.univ (m := outM) (r := halfRect h) (Mk := Finset.univ) (S := Finset.univ) (f := o) (Finset.subset_univ _)) $$ Hout
  iintro Hout
  have hval : addV (half h o) ((commM.access (slotRect h k)).read (Elt F) fr) = A P h (k.val + 1) c := by
    have e := Memref.read_squeeze_slice (Val := Elt F) commM (slotRect h k) (fun _ => rfl) squeezes_S1x1x2x128x256_S2x128x256
      shapeCasts_S1x1x2x128x256_S2x128x256 fr
    rw [View.readAt_rect] at e
    rw [addV_eq, A_succ, ← ha, ← ho h, ← hfr, e]
  rw [wp_ret]
  imod (Rounds.cell_close ER (talkRd P) (Set.mem_univ κ₁) id (duties_later P (sendCell c h k))) $$ [Ha1] with Hv1
  · isplitr; · iexact HI1
    iexact Ha1
  imod (Rounds.cell_close ER (talkRd P) (Set.mem_univ κ₂) id (duties_later P (recvCell c h k))) $$ [Ha2] with Hv2
  · isplitr; · iexact HI2
    iexact Ha2
  imodintro
  iapply Hk
  isplitl [Hout]
  · iexists _
    isplitr; swap; iexact Hout
    ipureintro
    intro h'
    unfold setHalf
    by_cases hh : h' = h
    · subst hh; rw [if_pos rfl, half_write_same]; exact hval
    · rw [if_neg hh, half_write_other h h' hh]; exact ho h'
  isplitl [Hs]; · iexact Hs
  isplitl [Hr]; · unfold slotAny; iexists fr; iexact Hr
  isplitl [Hv1]; · iexact Hv1
  isplitl [Hv2]; · iexact Hv2
  iexists _; iexact HO

end Cert.KProof
-- ==== Proof.Attn.lean ====
module

public import proofs.«01_k».proof.Proof.Steps

@[expose] public section

set_option maxRecDepth 16384

noncomputable section

/-! # The attention part of the kernel

Each device first writes its own heads' share of the result, batch by batch. -/

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts

variable {F : FTy → Type} [FloatOps F]

local notation "𝕄" => MT nD τ sig Unit (Elt F) ℕ UU ℕ

/-- The contents of a device's five input buffers. -/
structure Ins (F : FTy → Type) where
  x : (cc0_stg0_0 : Ref sig .tc).ty.Contents (Elt F)
  wq : (cc0_stg1_0 : Ref sig .tc).ty.Contents (Elt F)
  k : (cc0_stg2_0 : Ref sig .tc).ty.Contents (Elt F)
  v : (cc0_stg3_0 : Ref sig .tc).ty.Contents (Elt F)
  wo : (cc0_stg4_0 : Ref sig .tc).ty.Contents (Elt F)

namespace Ins
variable (I : Ins F)
/-- The projection weights as loaded. -/
def wqV : Vec F S512x256 .bf16 := (wqM.access (Rect.unit (s := S512x256) ![0, 0] S512x256.size inb_S512x256_S512x256_0_0)).read (Elt F) I.wq
/-- One batch of the activations. -/
def xV (b : Fin 2) : Vec F S1x128x512 .bf16 := (xM.access (rowRect b)).read (Elt F) I.x
/-- One head's keys of one batch. -/
def kV (b : Fin 2) (j : Fin 4) : Vec F S1x128x1x64 .bf16 := (kM.access (kvRect b j)).read (Elt F) I.k
/-- One head's values of one batch. -/
def vV (b : Fin 2) (j : Fin 4) : Vec F S1x128x1x64 .bf16 := (vM.access (kvRect b j)).read (Elt F) I.v
/-- One head's rows of the output projection. -/
def woV (j : Fin 4) : Vec F S64x512 .bf16 := (woM.access (woRect j)).read (Elt F) I.wo
/-- A device's share of the result for one batch. -/
def row (b : Fin 2) : Vec F S1x128x512 .f32 :=
  batchOut maskV I.wqV (I.xV b) (I.kV b 0) (I.vV b 0) (I.woV 0) (I.kV b 1) (I.vV b 1) (I.woV 1)
    (I.kV b 2) (I.vV b 2) (I.woV 2) (I.kV b 3) (I.vV b 3) (I.woV 3)
/-- A device's share of the result. -/
def part : (cc0_stg5_0 : Ref sig .tc).ty.Contents (Elt F) :=
  fun i : S2x128x512.Idx => I.row (i 0) (show S1x128x512.Idx from fun a => match a with | 0 => (⟨0, Nat.one_pos⟩ : Fin 1) | 1 => i 1 | 2 => i 2)
end Ins

/-- Device `c`'s five input buffers at `I`. -/
def insPts (c : Dev nD) (I : Ins F) : sProp 𝕄 :=
  iprop((xM.view.loc (c : Thread nD τ) ↦{fullShare} I.x) ∗ (wqM.view.loc (c : Thread nD τ) ↦{fullShare} I.wq)
    ∗ (kM.view.loc (c : Thread nD τ) ↦{fullShare} I.k) ∗ (vM.view.loc (c : Thread nD τ) ↦{fullShare} I.v)
    ∗ (woM.view.loc (c : Thread nD τ) ↦{fullShare} I.wo))

/-- Batch `b` of the result buffer's contents. -/
abbrev rowOf (b : Fin 2) (o : (cc0_stg5_0 : Ref sig .tc).ty.Contents (Elt F)) : Vec F S1x128x512 .f32 :=
  (outM.access (rowRect b)).read (Elt F) o

/-- The two batches share no element. -/
theorem row_disjoint (b b' : Fin 2) (hne : b' ≠ b) (v : View sig .tc .vmem S2x128x512 .f32) :
    Disjoint (v.slice (rowRect b')).set ((v.slice (rowRect b)).setOn Finset.univ) := by
  rw [View.setOn_univ, View.set_slice, View.set_slice, Finset.disjoint_map, Finset.disjoint_left]
  intro i hi hi'
  rw [Rect.mem_set_unit] at hi hi'
  have h1 := hi 0; have h2 := hi' 0
  have e1 : (![b'.val, 0, 0] : Fin 3 → ℕ) 0 = b'.val := rfl
  have e2 : (![b.val, 0, 0] : Fin 3 → ℕ) 0 = b.val := rfl
  have e3 : S1x128x512.size 0 = 1 := rfl
  rw [e1, e3] at h1; rw [e2, e3] at h2
  exact hne (Fin.ext (by omega))

theorem row_write_same (b : Fin 2) (o : (cc0_stg5_0 : Ref sig .tc).ty.Contents (Elt F)) (w : Vec F S1x128x512 .f32) :
    rowOf b ((outM.access (rowRect b)).write (Elt F) o w Finset.univ) = w := View.read_write_univ _ _
theorem row_write_other (b b' : Fin 2) (hne : b' ≠ b) (o : (cc0_stg5_0 : Ref sig .tc).ty.Contents (Elt F)) (w : Vec F S1x128x512 .f32) :
    rowOf b' ((outM.access (rowRect b)).write (Elt F) o w Finset.univ) = rowOf b' o :=
  View.read_slice_write_slice_of_disjoint _ _ _ _ _ (row_disjoint b b' hne outM.view)

/-- Contents are known from their two batches. -/
theorem eq_part (I : Ins F) (o : (cc0_stg5_0 : Ref sig .tc).ty.Contents (Elt F)) (ho : ∀ b, rowOf b o = I.row b) : o = I.part := by
  funext i
  have := congrFun (ho (i 0)) (show S1x128x512.Idx from fun a => match a with | 0 => (⟨0, Nat.one_pos⟩ : Fin 1) | 1 => i 1 | 2 => i 2)
  refine Eq.trans ?_ this
  show o i = o _
  congr 1
  funext a
  apply Fin.ext
  match a with
  | 0 => show _ = (i 0).val + 1 * 0; omega
  | 1 => show _ = 0 + 1 * (i 1).val; omega
  | 2 => show _ = 0 + 1 * (i 2).val; omega

set_option maxHeartbeats 4000000 in
/-- One batch: its rows of the result buffer are written, the inputs stay. -/
theorem batch_run (c : Dev nD) (b : Fin 2) (I : Ins F) (o : (cc0_stg5_0 : Ref sig .tc).ty.Contents (Elt F)) (Q : PUnit → sProp 𝕄) :
    iprop((insPts c I ∗ outPts c o) ∗ ((insPts c I ∗ outPts c ((outM.access (rowRect b)).write (Elt F) o (I.row b) Finset.univ)) -∗ Q ⟨⟩))
    ⊢ wp frame (wpE (defs₀ (F := F)) 𝒱₀ c none) Set.univ (attnBatch (F := F) b maskV I.wqV) Q := by
  unfold attnBatch insPts
  iintro ⟨⟨⟨Hx, Hwq, Hk, Hv, Hw⟩, Ho⟩, HQ⟩
  iapply (wp_load_rect 𝒱₀ (c : Thread nD τ) none Set.univ (m := xM) (r := rowRect b) (S := Finset.univ) (f := I.x) (Finset.subset_univ _)) $$ Hx
  iintro Hx
  iapply (wp_load_rect 𝒱₀ (c : Thread nD τ) none Set.univ (m := kM) (r := kvRect b 0) (S := Finset.univ) (f := I.k) (Finset.subset_univ _)) $$ Hk
  iintro Hk
  iapply (wp_load_rect 𝒱₀ (c : Thread nD τ) none Set.univ (m := vM) (r := kvRect b 0) (S := Finset.univ) (f := I.v) (Finset.subset_univ _)) $$ Hv
  iintro Hv
  iapply (wp_load_rect 𝒱₀ (c : Thread nD τ) none Set.univ (m := woM) (r := woRect 0) (S := Finset.univ) (f := I.wo) (Finset.subset_univ _)) $$ Hw
  iintro Hw
  iapply (wp_load_rect 𝒱₀ (c : Thread nD τ) none Set.univ (m := kM) (r := kvRect b 1) (S := Finset.univ) (f := I.k) (Finset.subset_univ _)) $$ Hk
  iintro Hk
  iapply (wp_load_rect 𝒱₀ (c : Thread nD τ) none Set.univ (m := vM) (r := kvRect b 1) (S := Finset.univ) (f := I.v) (Finset.subset_univ _)) $$ Hv
  iintro Hv
  iapply (wp_load_rect 𝒱₀ (c : Thread nD τ) none Set.univ (m := woM) (r := woRect 1) (S := Finset.univ) (f := I.wo) (Finset.subset_univ _)) $$ Hw
  iintro Hw
  iapply (wp_load_rect 𝒱₀ (c : Thread nD τ) none Set.univ (m := kM) (r := kvRect b 2) (S := Finset.univ) (f := I.k) (Finset.subset_univ _)) $$ Hk
  iintro Hk
  iapply (wp_load_rect 𝒱₀ (c : Thread nD τ) none Set.univ (m := vM) (r := kvRect b 2) (S := Finset.univ) (f := I.v) (Finset.subset_univ _)) $$ Hv
  iintro Hv
  iapply (wp_load_rect 𝒱₀ (c : Thread nD τ) none Set.univ (m := woM) (r := woRect 2) (S := Finset.univ) (f := I.wo) (Finset.subset_univ _)) $$ Hw
  iintro Hw
  iapply (wp_load_rect 𝒱₀ (c : Thread nD τ) none Set.univ (m := kM) (r := kvRect b 3) (S := Finset.univ) (f := I.k) (Finset.subset_univ _)) $$ Hk
  iintro Hk
  iapply (wp_load_rect 𝒱₀ (c : Thread nD τ) none Set.univ (m := vM) (r := kvRect b 3) (S := Finset.univ) (f := I.v) (Finset.subset_univ _)) $$ Hv
  iintro Hv
  iapply (wp_load_rect 𝒱₀ (c : Thread nD τ) none Set.univ (m := woM) (r := woRect 3) (S := Finset.univ) (f := I.wo) (Finset.subset_univ _)) $$ Hw
  iintro Hw
  iapply (wp_load_rect 𝒱₀ (c : Thread nD τ) none Set.univ (m := outM) (r := rowRect b) (S := Finset.univ) (f := o) (Finset.subset_univ _)) $$ Ho
  iintro Ho
  iapply (wp_store 𝒱₀ (c : Thread nD τ) none Set.univ (m := outM) (r := rowRect b) (Mk := Finset.univ) (S := Finset.univ) (f := o) (Finset.subset_univ _)) $$ Ho
  iintro Ho
  rw [wp_ret]
  imodintro
  iapply HQ
  isplitr [Ho]
  · isplitl [Hx]; · iexact Hx
    isplitl [Hwq]; · iexact Hwq
    isplitl [Hk]; · iexact Hk
    isplitl [Hv]; · iexact Hv
    iexact Hw
  · iexact Ho

set_option maxHeartbeats 1000000 in
/-- The attention part leaves the device's share in the result buffer. -/
theorem attn_run (c : Dev nD) (I : Ins F) (Q : PUnit → sProp 𝕄) :
    iprop((insPts c I ∗ ∃ o, outPts c o) ∗ ((insPts c I ∗ outPts c I.part) -∗ Q ⟨⟩))
    ⊢ wp frame (wpE (defs₀ (F := F)) 𝒱₀ c none) Set.univ (attn (F := F)) Q := by
  unfold attn
  iintro ⟨⟨Hi, ⟨%o, Ho⟩⟩, HQ⟩
  unfold insPts
  icases Hi with ⟨Hx, Hwq, Hk, Hv, Hw⟩
  iapply (wp_load_rect 𝒱₀ (c : Thread nD τ) none Set.univ (m := wqM) (r := Rect.unit (s := S512x256) ![0, 0] S512x256.size inb_S512x256_S512x256_0_0) (S := Finset.univ) (f := I.wq) (Finset.subset_univ _)) $$ Hwq
  iintro Hwq
  have hfin : (outM.access (rowRect 1)).write (Elt F) ((outM.access (rowRect 0)).write (Elt F) o (I.row 0) Finset.univ) (I.row 1) Finset.univ = I.part := by
    apply eq_part
    intro b
    match b with
    | 0 => rw [row_write_other 1 0 (by decide), row_write_same]
    | 1 => rw [row_write_same]
  rw [wp_bind]
  iapply (batch_run c 0 I o)
  unfold insPts
  isplitr [HQ]
  · isplitr [Ho]
    · isplitl [Hx]; · iexact Hx
      isplitl [Hwq]; · iexact Hwq
      isplitl [Hk]; · iexact Hk
      isplitl [Hv]; · iexact Hv
      iexact Hw
    · iexact Ho
  iintro ⟨Hi, Ho⟩
  iapply (batch_run c 1 I _)
  unfold insPts
  isplitr [HQ]
  · isplitl [Hi]; · iexact Hi
    iexact Ho
  iintro ⟨Hi, Ho⟩
  iapply HQ
  isplitl [Hi]; · iexact Hi
  rw [hfin]
  iexact Ho

end Cert.KProof
-- ==== Proof.Body.lean ====
module

public import proofs.«01_k».proof.Proof.Steps
public import proofs.«01_k».proof.Proof.Attn

@[expose] public section

set_option maxRecDepth 16384

noncomputable section

/-! # The kernel's body, once, at a symbolic device

The barrier, one stage at a symbolic number, and from these the whole straight program. -/

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal
open Cert.KernelIdeal.Facts₀ Cert.KernelIdeal.Facts

variable {F : FTy → Type} [FloatOps F]

local notation "𝕄" => MT nD τ sig Unit (Elt F) ℕ UU ℕ

variable (P : Fin 2 → Dev nD → Vec F S2x128x256 .f32)

/-! ## What every device may open -/

/-- A device with one of its copies. -/
abbrev Slot : Type := Dev nD × Fin 2 × Fin 5

/-- The invariants of all cells, at the names `K`. -/
def Inv (K : GSem nD τ sig → ℕ) : sProp 𝕄 :=
  iprop(bigSep Finset.univ (fun c : Dev nD => cellInv ER (talkRd P) (K (barCell c)) (barCell c))
    ∗ bigSep Finset.univ (fun x : Slot => cellInv ER (talkRd P) (K (sendCell x.1 x.2.1 x.2.2)) (sendCell x.1 x.2.1 x.2.2))
    ∗ bigSep Finset.univ (fun x : Slot => cellInv ER (talkRd P) (K (recvCell x.1 x.2.1 x.2.2)) (recvCell x.1 x.2.1 x.2.2)))

instance Inv_persistent (K : GSem nD τ sig → ℕ) : BI.Persistent (Inv P K) := by unfold Inv; infer_instance

/-- One member of a family over a whole type. -/
theorem pick {I : Type} [Fintype I] [DecidableEq I] (Φ : I → sProp 𝕄) (i : I) : bigSep Finset.univ Φ ⊢ Φ i := by
  refine (Rounds.bigSep_pick (Finset.mem_univ i)).trans ?_
  iintro ⟨H, -⟩; iexact H

theorem inv_bar (K : GSem nD τ sig → ℕ) (c : Dev nD) : Inv P K ⊢ cellInv ER (talkRd P) (K (barCell c)) (barCell c) := by
  unfold Inv; iintro ⟨H, -, -⟩
  iapply (pick (fun c : Dev nD => cellInv ER (talkRd P) (K (barCell c)) (barCell c)) c); iexact H
theorem inv_send (K : GSem nD τ sig → ℕ) (c : Dev nD) (h : Fin 2) (k : Fin 5) :
    Inv P K ⊢ cellInv ER (talkRd P) (K (sendCell c h k)) (sendCell c h k) := by
  unfold Inv; iintro ⟨-, H, -⟩
  iapply (pick (fun x : Slot => cellInv ER (talkRd P) (K (sendCell x.1 x.2.1 x.2.2)) (sendCell x.1 x.2.1 x.2.2)) (c, h, k)); iexact H
theorem inv_recv (K : GSem nD τ sig → ℕ) (c : Dev nD) (h : Fin 2) (k : Fin 5) :
    Inv P K ⊢ cellInv ER (talkRd P) (K (recvCell c h k)) (recvCell c h k) := by
  unfold Inv; iintro ⟨-, -, H⟩
  iapply (pick (fun x : Slot => cellInv ER (talkRd P) (K (recvCell x.1 x.2.1 x.2.2)) (recvCell x.1 x.2.1 x.2.2)) (c, h, k)); iexact H

/-- Every barrier cell's round is open. -/
def BarReached : sProp 𝕄 := bigSep Finset.univ (fun c : Dev nD => reached ER (barCell c) 0)
instance BarReached_persistent : BI.Persistent (BarReached (F := F)) := by unfold BarReached; infer_instance
theorem bar_reached (c : Dev nD) : BarReached (F := F) ⊢ reached ER (barCell c) 0 :=
  pick (fun c : Dev nD => reached ER (barCell c) 0) c

/-! ## What a stage takes and gives -/

/-- An arrival slot that may be copied into. -/
def slotR (c : Dev nD) (h : Fin 2) (k : Fin 5) : sProp 𝕄 :=
  iprop(slotAny (F := F) commM c h k ∗ reached ER (recvCell c h k) 0)

/-- A device's own part of one exchange, before it. -/
def stageRes (c : Dev nD) (h : Fin 2) (k : Fin 5) : sProp 𝕄 :=
  iprop(slotAny (F := F) sendM c h k ∗ dutyTok ER (sendCell c h k) 0 0 ∗ reached ER (sendCell c h k) 0
    ∗ dutyTok ER (recvCell (peer (ord h k) c) h k) 0 0
    ∗ atPos ER (sendCell c h k) 0 ∅ 0 ∗ atPos ER (recvCell c h k) 0 ∅ 0 ∗ cred (tallyAt (recvCell c h k) () N))

/-- A device's own part of one exchange, after it: both slots and both counters back. -/
def stageEnd (c : Dev nD) (h : Fin 2) (k : Fin 5) : sProp 𝕄 :=
  iprop(slotAny (F := F) sendM c h k ∗ slotAny (F := F) commM c h k ∗ semVal (sendCell c h k) 0 ∗ semVal (recvCell c h k) 0)

/-- The half-and-stage pairs, stage by stage. -/
abbrev both (R : Fin 2 → Fin 5 → sProp 𝕄) : sProp 𝕄 := bigSep Finset.univ (fun k : Fin 5 => iprop(R 0 k ∗ R 1 k))

/-- The stage at which a half crosses a bit, as a permutation. -/
def stageEquiv (h : Fin 2) : Fin 5 ≃ Fin 5 := ⟨stageOf h, ord h, ord_stageOf h, stageOf_ord h⟩

/-- A family over the stages, counted by the bit crossed, -/
theorem by_bit (h : Fin 2) (Φ : Fin 5 → sProp 𝕄) : bigSep Finset.univ Φ = bigSep Finset.univ (fun s => Φ (stageOf h s)) :=
  bigSep_univ_equiv (stageEquiv h) Φ
/-- and a family over the bits, counted by stage. -/
theorem by_stage (h : Fin 2) (Φ : Fin 5 → sProp 𝕄) : bigSep Finset.univ Φ = bigSep Finset.univ (fun k => Φ (ord h k)) :=
  bigSep_univ_equiv (stageEquiv h).symm Φ

/-- A family of pairs is a pair of families. -/
theorem sep_fam {I : Type} [Fintype I] (Φ Ψ : I → sProp 𝕄) :
    bigSep Finset.univ (fun i => iprop(Φ i ∗ Ψ i)) = iprop(bigSep Finset.univ Φ ∗ bigSep Finset.univ Ψ) := bigSep_sep _ _ _

/-- The payload of a barrier is two arrival slots. -/
theorem barPay_eq (c : Dev nD) (s : Fin 5) :
    barPay (F := F) c s = iprop(slotR (F := F) (peer s c) 0 (stageOf 0 s) ∗ slotR (F := F) (peer s c) 1 (stageOf 1 s)) := rfl

/-- A device's own arrival slots, sorted by the partner they are handed to. -/
theorem own_slots (c : Dev nD) : both (slotR (F := F) c) = bigSep Finset.univ (fun s : Fin 5 => barPay (F := F) (peer s c) s) := by
  simp only [barPay_eq, peer_peer, both]
  rw [sep_fam (fun k => slotR (F := F) c 0 k), sep_fam (fun s => slotR (F := F) c 0 (stageOf 0 s)), by_bit 0 (fun k => slotR (F := F) c 0 k), by_bit 1 (fun k => slotR (F := F) c 1 k)]

/-- What the barrier brings, sorted by stage. -/
theorem partner_slots (c : Dev nD) : bigSep Finset.univ (fun s : Fin 5 => barPay (F := F) c s)
    = both (fun h k => slotR (F := F) (peer (ord h k) c) h k) := by
  simp only [barPay_eq, both]
  rw [sep_fam (fun s => slotR (F := F) (peer s c) 0 (stageOf 0 s)), sep_fam (fun k => slotR (F := F) (peer (ord 0 k) c) 0 k), by_stage 0 (fun s => slotR (F := F) (peer s c) 0 (stageOf 0 s)),
    by_stage 1 (fun s => slotR (F := F) (peer s c) 1 (stageOf 1 s))]
  simp only [stageOf_ord]

/-! ## The barrier -/

/-- One signal hands two of the own arrival slots to the partner across bit `s`. -/
theorem signal_run (K : GSem nD τ sig → ℕ) (c : Dev nD) (s : Fin 5) (O : CellTallies nD τ sig Unit) (W : Waits sig Unit)
    (q : PUnit → KProg (F := F) PUnit) (Q : PUnit → sProp 𝕄) :
    iprop((Inv P K ∗ BarReached (F := F) ∗ barPay (F := F) (peer s c) s ∗ dutyTok ER (barCell (peer s c)) 0 s ∗ owes (c : Thread nD τ) (O + owesBar c s) W)
      ∗ (owes (c : Thread nD τ) O W -∗ wp frame (wpE (defs₀ (F := F)) 𝒱₀ c none) Set.univ (q ⟨⟩) Q))
    ⊢ wp frame (wpE (defs₀ (F := F)) 𝒱₀ c none) Set.univ (.op (.semSignal (peer s c, .tc) barS ((1 : ℕ) : ℤ)) q) Q := by
  iintro ⟨⟨#HI, #HR, Hp, Ht, HO⟩, Hk⟩
  iapply (Rounds.wp_signal 𝒱₀ ER (talkRd P) (c : Thread nD τ) none (dst := (peer s c : Thread nD τ)) (sem := barS) (r := 0) (d := s)
      (κ := K (barCell (peer s c))) (by rw [duties_bar]; exact Finset.mem_univ s) (amount_bar P (peer s c) s) () O rfl) $$ [HO Ht Hp]
  · isplitr; · iapply (inv_bar P K (peer s c)); iexact HI
    isplitl [HO]; · iexact HO
    isplitl [Ht]; · iexact Ht
    isplitl [Hp]
    · rw [payload_bar]; iexact Hp
    · iapply (bar_reached (peer s c)); iexact HR
  iintro HO
  iapply Hk; iexact HO

/-- The barrier trades the own arrival slots for the partners'. -/
theorem barrier_run (K : GSem nD τ sig → ℕ) (c : Dev nD) (W : Waits sig Unit) (Q : PUnit → sProp 𝕄) :
    iprop((Inv P K ∗ BarReached (F := F) ∗ levAts L lv ∗ both (slotR (F := F) c)
        ∗ bigSep Finset.univ (fun s : Fin 5 => dutyTok ER (barCell (peer s c)) 0 s)
        ∗ cred (tallyAt (barCell c) () 5) ∗ atPos ER (barCell c) 0 ∅ 0 ∗ owes (c : Thread nD τ) (O₀ c) W)
      ∗ ((both (fun h k => slotR (F := F) (peer (ord h k) c) h k) ∗ semVal (barCell c) 0 ∗ ∃ W', owes (c : Thread nD τ) (due c 0) W') -∗ Q ⟨⟩))
    ⊢ wp frame (wpE (defs₀ (F := F)) 𝒱₀ c none) Set.univ (barrier (F := F) (peer 0 c) (peer 1 c) (peer 2 c) (peer 3 c) (peer 4 c)) Q := by
  rw [own_slots, ← partner_slots, bigSep_fin5 (fun s : Fin 5 => barPay (F := F) (peer s c) s),
    bigSep_fin5 (fun s : Fin 5 => dutyTok ER (barCell (peer s c)) 0 s)]
  unfold barrier O₀
  iintro ⟨⟨#HI, #HR, #Hlev, ⟨Hp0, Hp1, Hp2, Hp3, Hp4⟩, ⟨Ht0, Ht1, Ht2, Ht3, Ht4⟩, Hc, Ha, HO⟩, Hk⟩
  iapply (signal_run P K c 0); isplitl [Hp0 Ht0 HO]
  · iframe # ∗
  iintro HO
  iapply (signal_run P K c 1); isplitl [Hp1 Ht1 HO]
  · iframe # ∗
  iintro HO
  iapply (signal_run P K c 2); isplitl [Hp2 Ht2 HO]
  · iframe # ∗
  iintro HO
  iapply (signal_run P K c 3); isplitl [Hp3 Ht3 HO]
  · iframe # ∗
  iintro HO
  iapply (signal_run P K c 4); isplitl [Hp4 Ht4 HO]
  · iframe # ∗
  iintro HO
  iapply (Rounds.wp_wait_rest_token 𝒱₀ ER (talkRd P) (c : Thread nD τ) none (k' := 5) (κ := K (barCell c))
      (wpE_semWait_eq 𝒱₀ (c : Thread nD τ) none Set.univ) (Set.mem_univ _) () (O := due c 0) (W := W) (R := 0) (m := 0) (T := ∅)
      ((Nat.zero_add _).trans (expect_bar P c).symm)) $$ [Hc HO Ha]
  · isplitr; · iapply (inv_bar P K c); iexact HI
    isplitl [Hc]; · iexact Hc
    isplitl [HO]; · iexact HO
    isplitr
    · iapply (mayWait c (.reg barS) 0 (by show 1 < 2 + 0; omega)); iexact Hlev
    iexact Ha
  iintro ⟨HO, Ha, -, Hpay⟩
  rw [wp_ret]
  ihave #HIb := (inv_bar P K c) $$ HI
  imod (Rounds.cell_close ER (talkRd P) (Set.mem_univ (K (barCell c))) id (duties_later P (barCell c))) $$ [Ha] with Hv
  · isplitr; · iexact HIb
    iexact Ha
  imodintro
  iapply Hk
  isplitl [Hpay]
  · rw [Finset.sdiff_empty, duties_bar]; iexact Hpay
  isplitl [Hv]; · iexact Hv
  iexists _; iexact HO

/-! ## A stage -/

/-- One stage adds the partners' halves to both halves. -/
theorem stage_run (K : GSem nD τ sig → ℕ) (c : Dev nD) (k : Fin 5) (W : Waits sig Unit) (Q : PUnit → sProp 𝕄) :
    iprop((Inv P K ∗ levAts L lv ∗ outAt c (fun h => A P h k.val c) ∗ (stageRes (F := F) c 0 k ∗ stageRes (F := F) c 1 k)
        ∗ (slotR (F := F) (peer (ord 0 k) c) 0 k ∗ slotR (F := F) (peer (ord 1 k) c) 1 k) ∗ owes (c : Thread nD τ) (due c k.val) W)
      ∗ ((outAt c (fun h => A P h (k.val + 1) c) ∗ (stageEnd (F := F) c 0 k ∗ stageEnd (F := F) c 1 k)
          ∗ ∃ W', owes (c : Thread nD τ) (due c (k.val + 1)) W') -∗ Q ⟨⟩))
    ⊢ wp frame (wpE (defs₀ (F := F)) 𝒱₀ c none) Set.univ (stage (F := F) k (peer (ord 0 k) c) (peer (ord 1 k) c)) Q := by
  have hset : setHalf (setHalf (fun h => A P h k.val c) 0 (A P 0 (k.val + 1) c)) 1 (A P 1 (k.val + 1) c) = fun h => A P h (k.val + 1) c := by
    funext h; unfold setHalf
    by_cases h1 : h = 1
    · subst h1; rw [if_pos rfl]
    · have h0 : h = 0 := by omega
      subst h0; rw [if_neg h1, if_pos rfl]
  unfold stage stageRes slotR stageEnd
  rw [due_step]
  iintro ⟨⟨#HI, #Hlev, Hout, ⟨⟨Hs0, Ht0, #Hrs0, Hu0, Has0, Hav0, Hc0⟩, ⟨Hs1, Ht1, #Hrs1, Hu1, Has1, Hav1, Hc1⟩⟩, ⟨⟨Hd0, #Hrd0⟩, ⟨Hd1, #Hrd1⟩⟩, HO⟩, Hk⟩
  ihave #HS0 := (inv_send P K c 0 k) $$ HI
  ihave #HS1 := (inv_send P K c 1 k) $$ HI
  ihave #HV0 := (inv_recv P K c 0 k) $$ HI
  ihave #HV1 := (inv_recv P K c 1 k) $$ HI
  ihave #HP0 := (inv_recv P K (peer (ord 0 k) c) 0 k) $$ HI
  ihave #HP1 := (inv_recv P K (peer (ord 1 k) c) 1 k) $$ HI
  rw [wp_bind]
  iapply (send_run P (K (sendCell c 0 k)) (K (recvCell (peer (ord 0 k) c) 0 k)) c 0 k (fun h => A P h k.val c) rfl
    (due c (k.val + 1) + owesRecv c 1 k) W)
  isplitl [Hout Hs0 Hd0 HO Ht0 Hu0]
  · iframe # ∗
  iintro ⟨Hout, Hcs0, HO⟩
  rw [wp_bind]
  iapply (send_run P (K (sendCell c 1 k)) (K (recvCell (peer (ord 1 k) c) 1 k)) c 1 k (fun h => A P h k.val c) rfl (due c (k.val + 1)) W)
  isplitl [Hout Hs1 Hd1 HO Ht1 Hu1]
  · iframe # ∗
  iintro ⟨Hout, Hcs1, HO⟩
  rw [wp_bind]
  iapply (recv_run P (K (sendCell c 0 k)) (K (recvCell c 0 k)) c 0 k (fun h => A P h k.val c) rfl W)
  isplitl [Hout Hcs0 Hc0 HO Has0 Hav0]
  · iframe # ∗
  iintro ⟨Hout, Hs0, Hr0, Hvs0, Hvr0, ⟨%W', HO⟩⟩
  iapply (recv_run P (K (sendCell c 1 k)) (K (recvCell c 1 k)) c 1 k (setHalf (fun h => A P h k.val c) 0 (A P 0 (k.val + 1) c))
    (by unfold setHalf; rw [if_neg (by decide)]) W')
  isplitl [Hout Hcs1 Hc1 HO Has1 Hav1]
  · iframe # ∗
  iintro ⟨Hout, Hs1, Hr1, Hvs1, Hvr1, HO⟩
  rw [hset]
  iapply Hk
  iframe # ∗

/-! ## The stages together -/

/-- The five stages add up both halves. -/
theorem stages_run (K : GSem nD τ sig → ℕ) (c : Dev nD) (W : Waits sig Unit) (Q : PUnit → sProp 𝕄) :
    iprop((Inv P K ∗ levAts L lv ∗ outAt c (fun h => A P h 0 c) ∗ both (stageRes (F := F) c)
        ∗ both (fun h k => slotR (F := F) (peer (ord h k) c) h k) ∗ owes (c : Thread nD τ) (due c 0) W)
      ∗ ((outAt c (fun h => A P h 5 c) ∗ both (stageEnd (F := F) c) ∗ ∃ W', owes (c : Thread nD τ) 0 W') -∗ Q ⟨⟩))
    ⊢ wp frame (wpE (defs₀ (F := F)) 𝒱₀ c none) Set.univ
        (stages (F := F) (peer (ord 0 0) c) (peer (ord 1 0) c) (peer (ord 0 1) c) (peer (ord 1 1) c) (peer (ord 0 2) c) (peer (ord 1 2) c)
          (peer (ord 0 3) c) (peer (ord 1 3) c) (peer (ord 0 4) c) (peer (ord 1 4) c)) Q := by
  unfold stages both
  rw [bigSep_fin5 (fun k => iprop(stageRes (F := F) c 0 k ∗ stageRes (F := F) c 1 k)),
    bigSep_fin5 (fun k => iprop(slotR (F := F) (peer (ord 0 k) c) 0 k ∗ slotR (F := F) (peer (ord 1 k) c) 1 k)),
    bigSep_fin5 (fun k => iprop(stageEnd (F := F) c 0 k ∗ stageEnd (F := F) c 1 k)), ← due_end c]
  iintro ⟨⟨#HI, #Hlev, Hout, ⟨Hs0, Hs1, Hs2, Hs3, Hs4⟩, ⟨Hp0, Hp1, Hp2, Hp3, Hp4⟩, HO⟩, Hk⟩
  rw [wp_bind]
  iapply (stage_run P K c 0 W); isplitl [Hout Hs0 Hp0 HO]
  · isplitr; · iexact HI
    isplitr; · iexact Hlev
    isplitl [Hout]; · iexact Hout
    isplitl [Hs0]; · iexact Hs0
    isplitl [Hp0]; · iexact Hp0
    iexact HO
  iintro ⟨Hout, He0, ⟨%W1, HO⟩⟩
  rw [wp_bind]
  iapply (stage_run P K c 1 W1); isplitl [Hout Hs1 Hp1 HO]
  · isplitr; · iexact HI
    isplitr; · iexact Hlev
    isplitl [Hout]; · iexact Hout
    isplitl [Hs1]; · iexact Hs1
    isplitl [Hp1]; · iexact Hp1
    iexact HO
  iintro ⟨Hout, He1, ⟨%W2, HO⟩⟩
  rw [wp_bind]
  iapply (stage_run P K c 2 W2); isplitl [Hout Hs2 Hp2 HO]
  · isplitr; · iexact HI
    isplitr; · iexact Hlev
    isplitl [Hout]; · iexact Hout
    isplitl [Hs2]; · iexact Hs2
    isplitl [Hp2]; · iexact Hp2
    iexact HO
  iintro ⟨Hout, He2, ⟨%W3, HO⟩⟩
  rw [wp_bind]
  iapply (stage_run P K c 3 W3); isplitl [Hout Hs3 Hp3 HO]
  · isplitr; · iexact HI
    isplitr; · iexact Hlev
    isplitl [Hout]; · iexact Hout
    isplitl [Hs3]; · iexact Hs3
    isplitl [Hp3]; · iexact Hp3
    iexact HO
  iintro ⟨Hout, He3, ⟨%W4, HO⟩⟩
  iapply (stage_run P K c 4 W4); isplitl [Hout Hs4 Hp4 HO]
  · isplitr; · iexact HI
    isplitr; · iexact Hlev
    isplitl [Hout]; · iexact Hout
    isplitl [Hs4]; · iexact Hs4
    isplitl [Hp4]; · iexact Hp4
    iexact HO
  iintro ⟨Hout, He4, HO⟩
  iapply Hk
  isplitl [Hout]; · iexact Hout
  isplitr [HO]
  · isplitl [He0]; · iexact He0
    isplitl [He1]; · iexact He1
    isplitl [He2]; · iexact He2
    isplitl [He3]; · iexact He3
    iexact He4
  iexact HO

/-! ## The whole body -/

/-- The halves the devices start the exchange with, from what each device reads. -/
def parts (I : Dev nD → Ins F) (h : Fin 2) (c : Dev nD) : Vec F S2x128x256 .f32 := half h (I c).part

/-- The body: from its inputs and its share of the protocol, device `c` ends with both halves summed, every slot and every
    counter back, and nothing owed. -/
theorem body_run (I : Dev nD → Ins F) (K : GSem nD τ sig → ℕ) (c : Dev nD) (W : Waits sig Unit) (Q : PUnit → sProp 𝕄) :
    iprop((Inv (parts I) K ∗ BarReached (F := F) ∗ levAts L lv ∗ insPts c (I c) ∗ (∃ o, outPts c o)
        ∗ both (slotR (F := F) c) ∗ both (stageRes (F := F) c)
        ∗ bigSep Finset.univ (fun s : Fin 5 => dutyTok ER (barCell (peer s c)) 0 s)
        ∗ cred (tallyAt (barCell c) () 5) ∗ atPos ER (barCell c) 0 ∅ 0 ∗ owes (c : Thread nD τ) (O₀ c) W)
      ∗ ((insPts c (I c) ∗ outAt c (fun h => A (parts I) h 5 c) ∗ both (stageEnd (F := F) c) ∗ semVal (barCell c) 0
          ∗ ∃ W', owes (c : Thread nD τ) 0 W') -∗ Q ⟨⟩))
    ⊢ wp frame (wpE (defs₀ (F := F)) 𝒱₀ c none) Set.univ (flat (F := F)) Q := by
  unfold flat
  rw [wp_deviceId]
  simp only [dev1_eq, dev2_eq, dev3_eq, dev4_eq, dev5_eq, dev6_eq, dev7_eq, dev8_eq, dev9_eq, dev10_eq, dev11_eq, dev12_eq, dev13_eq, dev14_eq, dev15_eq]
  iintro ⟨⟨#HI, #HR, #Hlev, Hins, Hout, Hslot, Hres, Ht, Hc, Ha, HO⟩, Hk⟩
  rw [wp_bind]
  iapply (attn_run c (I c)); isplitl [Hins Hout]
  · iframe # ∗
  iintro ⟨Hins, Hout⟩
  rw [wp_bind]
  iapply (barrier_run (parts I) K c W); isplitl [Hslot Ht Hc Ha HO]
  · iframe # ∗
  iintro ⟨Hp, Hv, ⟨%W1, HO⟩⟩
  iapply (stages_run (parts I) K c W1); isplitl [Hout Hres Hp HO]
  · isplitr; · iexact HI
    isplitr; · iexact Hlev
    isplitl [Hout]
    · unfold outAt; iexists (I c).part
      isplitr; · ipureintro; exact fun h => rfl
      iexact Hout
    isplitl [Hres]; · iexact Hres
    isplitl [Hp]; · iexact Hp
    iexact HO
  iintro ⟨Hout, He, HO⟩
  iapply Hk
  iframe # ∗

end Cert.KProof
-- ==== Proof.Slots.lean ====
module

public import proofs.«01_k».proof.Proof.Body
public import Idealize.ShloMosaic.Lib.Ring

@[expose] public section

set_option maxRecDepth 16384

noncomputable section

/-! # The scratch buffers as ten slots, the result as two halves -/

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts

variable {F : FTy → Type} [FloatOps F]

local notation "𝕄" => MT nD τ sig Unit (Elt F) ℕ UU ℕ

/-- Where a buffer index lies: its half and its stage. -/
theorem mem_slotRect (i : S2x5x2x128x256.Idx) (h : Fin 2) (k : Fin 5) :
    i ∈ (slotRect h k).set ↔ (i 0).val = h.val ∧ (i 1).val = k.val := by
  rw [Rect.mem_set_unit]
  constructor
  · intro H
    have h0 := H 0; have h1 := H 1
    have e0 : (![h.val, k.val, 0, 0, 0] : Fin 5 → ℕ) 0 = h.val := rfl
    have e1 : (![h.val, k.val, 0, 0, 0] : Fin 5 → ℕ) 1 = k.val := rfl
    have e2 : S1x1x2x128x256.size 0 = 1 := rfl
    have e3 : S1x1x2x128x256.size 1 = 1 := rfl
    rw [e0, e2] at h0; rw [e1, e3] at h1
    omega
  · rintro ⟨H0, H1⟩ a
    have hi := (i a).isLt
    match a with
    | 0 => show h.val ≤ (i 0).val ∧ (i 0).val < h.val + 1; omega
    | 1 => show k.val ≤ (i 1).val ∧ (i 1).val < k.val + 1; omega
    | 2 => show 0 ≤ (i 2).val ∧ (i 2).val < 0 + 2; exact ⟨Nat.zero_le _, by have : (i 2).val < 2 := (i 2).isLt; omega⟩
    | 3 => show 0 ≤ (i 3).val ∧ (i 3).val < 0 + 128; exact ⟨Nat.zero_le _, by have : (i 3).val < 128 := (i 3).isLt; omega⟩
    | 4 => show 0 ≤ (i 4).val ∧ (i 4).val < 0 + 256; exact ⟨Nat.zero_le _, by have : (i 4).val < 256 := (i 4).isLt; omega⟩

/-- The elements of one slot of the send buffer, -/
theorem send_set (h : Fin 2) (k : Fin 5) : (slotM sendM h k).view.set = (slotRect h k).set := by
  rw [View.set_reshape]
  exact View.set_slice_whole cc0_scratch0 (slotRect h k)
/-- and of the arrival buffer. -/
theorem comm_set (h : Fin 2) (k : Fin 5) : (slotM commM h k).view.set = (slotRect h k).set := by
  rw [View.set_reshape]
  exact View.set_slice_whole cc0_scratch1 (slotRect h k)

/-- A slot as a part of its buffer. -/
abbrev partAny (b : Ref sig .tc) (c : Dev nD) (I : Finset (Idx ((c : Thread nD τ).loc b))) : sProp 𝕄 :=
  iprop(∃ f : Buf (Elt F) ((c : Thread nD τ).loc b), ((c : Thread nD τ).loc b) ↦[I]{fullShare} f)

theorem send_any (c : Dev nD) (h : Fin 2) (k : Fin 5) : slotAny (F := F) sendM c h k = partAny cc0_scratch0 c (slotRect h k).set := by
  unfold slotAny slotPts; rw [send_set]
theorem comm_any (c : Dev nD) (h : Fin 2) (k : Fin 5) : slotAny (F := F) commM c h k = partAny cc0_scratch1 c (slotRect h k).set := by
  unfold slotAny slotPts; rw [comm_set]

theorem slots_disjoint (x y : Fin 5 × Fin 2) (hne : x ≠ y) : Disjoint (slotRect x.2 x.1).set (slotRect y.2 y.1).set := by
  rw [Finset.disjoint_left]
  intro i hi hj
  rw [mem_slotRect] at hi hj
  exact hne (Prod.ext (Fin.ext (by omega)) (Fin.ext (by omega)))

theorem slots_cover : (Finset.univ : Finset (Fin 5 × Fin 2)).biUnion (fun x => (slotRect x.2 x.1).set) = Finset.univ := by
  ext i
  simp only [Finset.mem_biUnion, Finset.mem_univ, true_and, iff_true]
  exact ⟨(i 1, i 0), (mem_slotRect i (i 0) (i 1)).mpr ⟨rfl, rfl⟩⟩

/-- A family over both halves and all stages, stage by stage. -/
theorem both_eq (R : Fin 2 → Fin 5 → sProp 𝕄) : bigSep Finset.univ (fun x : Fin 5 × Fin 2 => R x.2 x.1) = both R := by
  rw [bigSep_univ_prod]
  exact bigSep_congr fun k _ => BI.bigSep_fin_two (fun h : Fin 2 => R h k)

variable {ℓ : Loc nD τ sig}

/-- A buffer held whole is held part by part; -/
theorem parts_split {B : Type} [Fintype B] (J : B → Finset (Idx ℓ)) (hd : ∀ x y, x ≠ y → Disjoint (J x) (J y))
    (hc : Finset.univ.biUnion J = Finset.univ) (f : Buf (Elt F) ℓ) :
    (ℓ ↦{fullShare} f : sProp 𝕄) ⊢ bigSep Finset.univ (fun x => iprop(∃ f : Buf (Elt F) ℓ, ℓ ↦[J x]{fullShare} f)) := by
  refine (Entails.of_eq (Ring.pointsTo_blocks J hd hc f)).trans (bigSep_mono fun x _ =>
    show (ℓ ↦[J x]{fullShare} f : sProp 𝕄) ⊢ iprop(∃ f : Buf (Elt F) ℓ, ℓ ↦[J x]{fullShare} f) from ?_)
  iintro H; iexists f; iexact H
/-- and the parts make it again. -/
theorem parts_join {B : Type} [Fintype B] [DecidableEq B] (J : B → Finset (Idx ℓ)) (hd : ∀ x y, x ≠ y → Disjoint (J x) (J y))
    (hc : Finset.univ.biUnion J = Finset.univ) (f₀ : Buf (Elt F) ℓ) :
    bigSep Finset.univ (fun x => iprop(∃ f : Buf (Elt F) ℓ, ℓ ↦[J x]{fullShare} f)) ⊢ (iprop(∃ f, ℓ ↦{fullShare} f) : sProp 𝕄) :=
  Ring.pointsTo_blocks_join_exists J hd hc f₀

/-- The whole send buffer is its ten slots, -/
theorem send_split (c : Dev nD) (f : Buf (Elt F) ((c : Thread nD τ).loc cc0_scratch0)) :
    (((c : Thread nD τ).loc cc0_scratch0) ↦{fullShare} f : sProp 𝕄) ⊢ both (slotAny (F := F) sendM c) := by
  rw [← both_eq]
  simp only [send_any]
  exact parts_split (ℓ := (c : Thread nD τ).loc cc0_scratch0) (fun x : Fin 5 × Fin 2 => (slotRect x.2 x.1).set) slots_disjoint slots_cover f
/-- and so is the arrival buffer; -/
theorem comm_split (c : Dev nD) (f : Buf (Elt F) ((c : Thread nD τ).loc cc0_scratch1)) :
    (((c : Thread nD τ).loc cc0_scratch1) ↦{fullShare} f : sProp 𝕄) ⊢ both (slotAny (F := F) commM c) := by
  rw [← both_eq]
  simp only [comm_any]
  exact parts_split (ℓ := (c : Thread nD τ).loc cc0_scratch1) (fun x : Fin 5 × Fin 2 => (slotRect x.2 x.1).set) slots_disjoint slots_cover f
/-- the slots make the send buffer again, -/
theorem send_join (c : Dev nD) : both (slotAny (F := F) sendM c) ⊢ partAny (F := F) cc0_scratch0 c Finset.univ := by
  rw [← both_eq]
  simp only [send_any]
  exact parts_join (ℓ := (c : Thread nD τ).loc cc0_scratch0) (fun x : Fin 5 × Fin 2 => (slotRect x.2 x.1).set) slots_disjoint slots_cover
    (fun _ => (FloatOps.ofBits .bf16 0 : F .bf16))
/-- and the arrival buffer. -/
theorem comm_join (c : Dev nD) : both (slotAny (F := F) commM c) ⊢ partAny (F := F) cc0_scratch1 c Finset.univ := by
  rw [← both_eq]
  simp only [comm_any]
  exact parts_join (ℓ := (c : Thread nD τ).loc cc0_scratch1) (fun x : Fin 5 × Fin 2 => (slotRect x.2 x.1).set) slots_disjoint slots_cover
    (fun _ => (FloatOps.ofBits .bf16 0 : F .bf16))

/-! ## The result from its halves -/

/-- The result buffer's contents whose halves are `a`. -/
def joinHalves (a : Fin 2 → Vec F S2x128x256 .f32) : (cc0_stg5_0 : Ref sig .tc).ty.Contents (Elt F) :=
  fun i : S2x128x512.Idx => a ⟨(i 2).val / 256, by have : (i 2).val < 512 := (i 2).isLt; omega⟩
    (show S2x128x256.Idx from fun x => match x with | 0 => i 0 | 1 => i 1 | 2 => (⟨(i 2).val % 256, Nat.mod_lt _ (by decide)⟩ : Fin 256))

theorem eq_joinHalves (a : Fin 2 → Vec F S2x128x256 .f32) (o : (cc0_stg5_0 : Ref sig .tc).ty.Contents (Elt F)) (ho : ∀ h, half h o = a h) :
    o = joinHalves a := by
  funext i
  unfold joinHalves
  rw [← ho]
  show o i = o _
  congr 1
  funext x
  apply Fin.ext
  match x with
  | 0 => show _ = 0 + 1 * (i 0).val; omega
  | 1 => show _ = 0 + 1 * (i 1).val; omega
  | 2 => show (i 2).val = 256 * ((i 2).val / 256) + 1 * ((i 2).val % 256); omega

/-- A result buffer known by its halves is known. -/
theorem outAt_elim (c : Dev nD) (a : Fin 2 → Vec F S2x128x256 .f32) : outAt c a ⊢ outPts c (joinHalves a) := by
  unfold outAt
  iintro ⟨%o, %ho, H⟩
  rw [eq_joinHalves a o ho]
  iexact H

end Cert.KProof
-- ==== Proof.Region.lean ====
module

public import proofs.«01_k».proof.Proof.Slots
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk

@[expose] public section

set_option maxRecDepth 16384

noncomputable section

/-! # The kernel as one region of the program

What the region takes from the launch, what stands before and after its one grid point, and the body's
obligation there. -/

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal
open Cert.KernelIdeal.Facts₀ Cert.KernelIdeal.Facts

variable {F : FTy → Type} [FloatOps F]

local notation "𝕄" => MT nD τ sig Unit (Elt F) ℕ UU ℕ

/-! ## What the kernel reads and leaves -/

/-- What the kernel reads, off a device's buffers as the host operations left them. -/
def insOf (V : Valuation τ sig (Elt F)) : Ins F := ⟨V main_arg0, V main_arg1, V main_v9, V main_v14, V main_arg4⟩

variable (m : (ℓ : Loc nD τ sig) → Buf (Elt F) ℓ)

/-- What each device's kernel reads. -/
abbrev ins (c : Dev nD) : Ins F := insOf (Gen.V1 m c)

/-- What each device's kernel leaves. -/
def result (c : Dev nD) : (cc0_stg5_0 : Ref sig .tc).ty.Contents (Elt F) := joinHalves fun h => A (parts (ins m)) h 5 c

/-- The invariants of the protocol, under some names, and the barriers' rounds open. -/
def shared : sProp 𝕄 := iprop((∃ K, Inv (parts (ins m)) K) ∗ BarReached (F := F))

/-- One exchange's ghost state of a device before the region: both cells still shut. -/
def exShut (c : Dev nD) (h : Fin 2) (k : Fin 5) : sProp 𝕄 :=
  iprop((openTok ER (sendCell c h k) ∗ openTok ER (recvCell c h k)) ∗ dutyTok ER (sendCell c h k) 0 0
    ∗ dutyTok ER (recvCell (peer (ord h k) c) h k) 0 0 ∗ cred (tallyAt (recvCell c h k) () N))
/-- The same with both cells open. -/
def exOpen (c : Dev nD) (h : Fin 2) (k : Fin 5) : sProp 𝕄 :=
  iprop((atPos ER (sendCell c h k) 0 ∅ 0 ∗ reached ER (sendCell c h k) 0 ∗ atPos ER (recvCell c h k) 0 ∅ 0 ∗ reached ER (recvCell c h k) 0)
    ∗ dutyTok ER (sendCell c h k) 0 0 ∗ dutyTok ER (recvCell (peer (ord h k) c) h k) 0 0 ∗ cred (tallyAt (recvCell c h k) () N))
/-- A device's part of the barrier. -/
def barRes (c : Dev nD) : sProp 𝕄 :=
  iprop(bigSep Finset.univ (fun s : Fin 5 => dutyTok ER (barCell (peer s c)) 0 s) ∗ cred (tallyAt (barCell c) () 5) ∗ atPos ER (barCell c) 0 ∅ 0)

/-- What enters the region, -/
def Tk (c : Dev nD) : sProp 𝕄 := iprop(shared m ∗ both (exShut (F := F) c) ∗ barRes (F := F) c)
/-- what the body starts from, -/
def Xk (c : Dev nD) : sProp 𝕄 := iprop((∃ K, Inv (parts (ins m)) K ∗ BarReached (F := F) ∗ both (exOpen (F := F) c) ∗ barRes (F := F) c) ∗ levAts L lv)
/-- and what leaves it. -/
def Yk (c : Dev nD) : sProp 𝕄 := semVal (barCell c) 0

/-- The two scratch buffers, at some contents. -/
def scratches (c : Dev nD) : sProp 𝕄 := iprop(partAny (F := F) cc0_scratch0 c Finset.univ ∗ partAny (F := F) cc0_scratch1 c Finset.univ)
/-- The generator's register, at some state. -/
def prngAny (c : Dev nD) : sProp 𝕄 := iprop(∃ r, prngReg c r)
/-- The counters of one exchange, at zero. -/
def exSems (c : Dev nD) (h : Fin 2) (k : Fin 5) : sProp 𝕄 := iprop(semVal (sendCell c h k) 0 ∗ semVal (recvCell c h k) 0)

/-- Before the point. -/
def Φ₀ (c : Dev nD) : sProp 𝕄 := iprop(Xk m c ∗ scratches (F := F) c ∗ prngAny (F := F) c)
/-- After the point. -/
def Φ₁ (c : Dev nD) : sProp 𝕄 := iprop(Yk (F := F) c ∗ both (exSems (F := F) c) ∗ scratches (F := F) c ∗ prngAny (F := F) c)

/-- The region's data: the arrays as the host operations left them, the windows' buffers after the point, the
states around it and the debts. -/
def dat (c : Dev nD) : Dat τ (Elt F) Unit ℕ UU ℕ cfg0 c where
  A w := Gen.V1 m c (Proc.devRef .tc (cfg0.win w).arr.view.ref)
  after w _ := match w with
    | ⟨0, _⟩ => (ins m c).x
    | ⟨1, _⟩ => (ins m c).wq
    | ⟨2, _⟩ => (ins m c).k
    | ⟨3, _⟩ => (ins m c).v
    | ⟨4, _⟩ => (ins m c).wo
    | ⟨5, _⟩ => result m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-- A window staged whole reads its array whole. -/
theorem read_all (b : Ref sig .tc) (off : Fin b.ty.shape.rank → ℕ) (h : off = fun _ => 0) (inb) (hs) (f : b.ty.Contents (Elt F)) :
    ((Memref.whole b).slice (Rect.unit off b.ty.shape.size inb) hs).view.read (Elt F) f = f := by
  subst h
  exact Memref.read_access_whole (Elt F) b f

theorem zero_off {n : ℕ} (s : Fin n → ℕ) (off : Fin n → ℕ) (h : ∀ a, off a = 0 * s a) : off = fun _ => 0 := funext fun a => (h a).trans (Nat.zero_mul _)

theorem blk_0 (f : (main_arg0 : Ref sig .tc).ty.Contents (Elt F)) : (win0_0.blk Gen.t0_0).view.read (Elt F) f = f :=
  read_all (F := F) main_arg0 _ (zero_off (win0_0.size) _ fun _ => rfl) _ (fun _ => rfl) f
theorem blk_1 (f : (main_arg1 : Ref sig .tc).ty.Contents (Elt F)) : (win0_1.blk Gen.t0_0).view.read (Elt F) f = f :=
  read_all (F := F) main_arg1 _ (zero_off (win0_1.size) _ fun _ => rfl) _ (fun _ => rfl) f
theorem blk_2 (f : (main_v9 : Ref sig .tc).ty.Contents (Elt F)) : (win0_2.blk Gen.t0_0).view.read (Elt F) f = f :=
  read_all (F := F) main_v9 _ (zero_off (win0_2.size) _ fun _ => rfl) _ (fun _ => rfl) f
theorem blk_3 (f : (main_v14 : Ref sig .tc).ty.Contents (Elt F)) : (win0_3.blk Gen.t0_0).view.read (Elt F) f = f :=
  read_all (F := F) main_v14 _ (zero_off (win0_3.size) _ fun _ => rfl) _ (fun _ => rfl) f
theorem blk_4 (f : (main_arg4 : Ref sig .tc).ty.Contents (Elt F)) : (win0_4.blk Gen.t0_0).view.read (Elt F) f = f :=
  read_all (F := F) main_arg4 _ (zero_off (win0_4.size) _ fun _ => rfl) _ (fun _ => rfl) f

theorem before_0 (c : Dev nD) (d) : (dat m c).before (0 : Fin 6) Gen.t0_0 d = (ins m c).x := by
  unfold Dat.before
  rw [if_pos (Gen.fetch0_0 Gen.t0_0)]
  exact blk_0 (F := F) _
theorem before_1 (c : Dev nD) (d) : (dat m c).before (1 : Fin 6) Gen.t0_0 d = (ins m c).wq := by
  unfold Dat.before
  rw [if_pos (Gen.fetch0_1 Gen.t0_0)]
  exact blk_1 (F := F) _
theorem before_2 (c : Dev nD) (d) : (dat m c).before (2 : Fin 6) Gen.t0_0 d = (ins m c).k := by
  unfold Dat.before
  rw [if_pos (Gen.fetch0_2 Gen.t0_0)]
  show (win0_2.blk Gen.t0_0).view.read (Elt F) (Gen.V1 m c main_v9) = Gen.V1 m c main_v9
  exact blk_2 (F := F) _
theorem before_3 (c : Dev nD) (d) : (dat m c).before (3 : Fin 6) Gen.t0_0 d = (ins m c).v := by
  unfold Dat.before
  rw [if_pos (Gen.fetch0_3 Gen.t0_0)]
  show (win0_3.blk Gen.t0_0).view.read (Elt F) (Gen.V1 m c main_v14) = Gen.V1 m c main_v14
  exact blk_3 (F := F) _
theorem before_4 (c : Dev nD) (d) : (dat m c).before (4 : Fin 6) Gen.t0_0 d = (ins m c).wo := by
  unfold Dat.before
  rw [if_pos (Gen.fetch0_4 Gen.t0_0)]
  exact blk_4 (F := F) _

/-! ## The body's obligation -/

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at known contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_elim (c : Dev nD) (b : Ref sig .tc) (X : b.ty.Contents (Elt F)) : stg c b X ⊢ (((c : Thread nD τ).loc b) ↦{fullShare} X : sProp 𝕄) := by
  iintro ⟨%f, %h, H⟩; rw [← h]; iexact H
theorem stg_intro (c : Dev nD) (b : Ref sig .tc) (X : b.ty.Contents (Elt F)) : (((c : Thread nD τ).loc b) ↦{fullShare} X : sProp 𝕄) ⊢ stg c b X := by
  iintro H; iexists X; isplitr; · ipureintro; rfl
  iexact H

theorem debt_take (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W; iexact HO
theorem debt_give (c : Dev nD) (t : Fin (cfg0.N + 1)) (O : CellTallies nD τ sig Unit) (h : (dat m c).owed t = O) (W : Waits sig Unit) :
    (owes (c : Thread nD τ) O W : sProp 𝕄) ⊢ (dat m c).owesAt () t := by
  unfold Dat.owesAt Pipeline.owesWithin Dat.bound
  rw [h]
  iintro HO
  iexists W
  isplitr; · ipureintro; exact fun _ _ => Or.inl trivial
  iexact HO

/-- An exchange's slots and open cells are what the stage takes. -/
theorem res_intro (c : Dev nD) : iprop(both (exOpen (F := F) c) ∗ both (slotAny (F := F) sendM c) ∗ both (slotAny (F := F) commM c))
    ⊢ iprop(both (slotR (F := F) c) ∗ both (stageRes (F := F) c)) := by
  simp only [← both_eq]
  rw [← sep_fam (fun x : Fin 5 × Fin 2 => slotAny (F := F) sendM c x.2 x.1), ← sep_fam (fun x : Fin 5 × Fin 2 => exOpen (F := F) c x.2 x.1),
    ← sep_fam (fun x : Fin 5 × Fin 2 => slotR (F := F) c x.2 x.1)]
  refine bigSep_mono fun x _ => show iprop(exOpen (F := F) c x.2 x.1 ∗ (slotAny (F := F) sendM c x.2 x.1 ∗ slotAny (F := F) commM c x.2 x.1))
    ⊢ iprop(slotR (F := F) c x.2 x.1 ∗ stageRes (F := F) c x.2 x.1) from ?_
  unfold exOpen slotR stageRes
  iintro ⟨⟨⟨H1, H2, H3, H4⟩, H5, H6, H7⟩, H8, H9⟩
  iframe # ∗

/-- What the stages leave, sorted. -/
theorem end_elim (c : Dev nD) : both (stageEnd (F := F) c)
    ⊢ iprop(both (exSems (F := F) c) ∗ both (slotAny (F := F) sendM c) ∗ both (slotAny (F := F) commM c)) := by
  simp only [← both_eq]
  rw [← sep_fam (fun x : Fin 5 × Fin 2 => slotAny (F := F) sendM c x.2 x.1), ← sep_fam (fun x : Fin 5 × Fin 2 => exSems (F := F) c x.2 x.1)]
  refine bigSep_mono fun x _ => show stageEnd (F := F) c x.2 x.1
    ⊢ iprop(exSems (F := F) c x.2 x.1 ∗ (slotAny (F := F) sendM c x.2 x.1 ∗ slotAny (F := F) commM c x.2 x.1)) from ?_
  unfold exSems stageEnd
  iintro ⟨H1, H2, H3, H4⟩
  iframe # ∗

/-- Before the point, spelt out. -/
def pre (c : Dev nD) : sProp 𝕄 :=
  iprop(Φ₀ m c ∗ (dat m c).owesAt () Gen.t0_0.castSucc
    ∗ (∃ d, stg c cc0_stg0_0 ((dat m c).before (0 : Fin 6) Gen.t0_0 d)) ∗ (∃ d, stg c cc0_stg1_0 ((dat m c).before (1 : Fin 6) Gen.t0_0 d))
    ∗ (∃ d, stg c cc0_stg2_0 ((dat m c).before (2 : Fin 6) Gen.t0_0 d)) ∗ (∃ d, stg c cc0_stg3_0 ((dat m c).before (3 : Fin 6) Gen.t0_0 d))
    ∗ (∃ d, stg c cc0_stg4_0 ((dat m c).before (4 : Fin 6) Gen.t0_0 d)) ∗ (∃ d, stg c cc0_stg5_0 ((dat m c).before (5 : Fin 6) Gen.t0_0 d)))
/-- After the point, spelt out. -/
def post (c : Dev nD) : sProp 𝕄 :=
  iprop(Φ₁ (F := F) c ∗ (dat m c).owesAt () Gen.t0_0.succ
    ∗ stg c cc0_stg0_0 (ins m c).x ∗ stg c cc0_stg1_0 (ins m c).wq ∗ stg c cc0_stg2_0 (ins m c).k ∗ stg c cc0_stg3_0 (ins m c).v
    ∗ stg c cc0_stg4_0 (ins m c).wo ∗ stg c cc0_stg5_0 (result m c))

theorem pre_elim (c : Dev nD) : pre m c ⊢ iprop(Φ₀ m c ∗ (∃ W, owes (c : Thread nD τ) (O₀ c) W) ∗ insPts c (ins m c) ∗ (∃ o, outPts (F := F) c o)) := by
  unfold pre
  simp only [before_0, before_1, before_2, before_3, before_4]
  iintro ⟨HΦ, HO, ⟨%d0, H0⟩, ⟨%d1, H1⟩, ⟨%d2, H2⟩, ⟨%d3, H3⟩, ⟨%d4, H4⟩, ⟨%d5, ⟨%f5, -, H5⟩⟩⟩
  ihave HO := (debt_take m c _ (O₀ c) rfl) $$ HO
  ihave H0 := (stg_elim c cc0_stg0_0 _) $$ H0
  ihave H1 := (stg_elim c cc0_stg1_0 _) $$ H1
  ihave H2 := (stg_elim c cc0_stg2_0 _) $$ H2
  ihave H3 := (stg_elim c cc0_stg3_0 _) $$ H3
  ihave H4 := (stg_elim c cc0_stg4_0 _) $$ H4
  isplitl [HΦ]; · iexact HΦ
  isplitl [HO]; · iexact HO
  isplitr [H5]
  · unfold insPts
    isplitl [H0]; · iexact H0
    isplitl [H1]; · iexact H1
    isplitl [H2]; · iexact H2
    isplitl [H3]; · iexact H3
    iexact H4
  iexists f5; iexact H5

theorem post_intro (c : Dev nD) (W : Waits sig Unit) :
    iprop(Φ₁ (F := F) c ∗ owes (c : Thread nD τ) 0 W ∗ insPts c (ins m c) ∗ outPts c (result m c)) ⊢ post m c := by
  unfold post insPts
  iintro ⟨HΦ, HO, ⟨H0, H1, H2, H3, H4⟩, H5⟩
  isplitl [HΦ]; · iexact HΦ
  isplitl [HO]; · iapply (debt_give m c _ 0 rfl W); iexact HO
  isplitl [H0]; · iapply (stg_intro c cc0_stg0_0 _); iexact H0
  isplitl [H1]; · iapply (stg_intro c cc0_stg1_0 _); iexact H1
  isplitl [H2]; · iapply (stg_intro c cc0_stg2_0 _); iexact H2
  isplitl [H3]; · iapply (stg_intro c cc0_stg3_0 _); iexact H3
  isplitl [H4]; · iapply (stg_intro c cc0_stg4_0 _); iexact H4
  iapply (stg_intro c cc0_stg5_0 _); iexact H5

/-- The body at the region's point. -/
theorem point_run (c : Dev nD) : pre m c ⊢ wp frame (wpE (defs₀ (F := F)) 𝒱₀ c none) Set.univ (flat (F := F)) (fun _ => post m c) := by
  refine (pre_elim m c).trans ?_
  unfold Φ₀ Xk barRes scratches
  iintro ⟨⟨⟨⟨%K, #HI, #HR, Hex, Ht, Hc, Ha⟩, #Hlev⟩, ⟨⟨%f0, Hs0⟩, ⟨%f1, Hs1⟩⟩, Hp⟩, ⟨%W, HO⟩, Hins, Hout⟩
  ihave Hs0 := (send_split c f0) $$ Hs0
  ihave Hs1 := (comm_split c f1) $$ Hs1
  ihave Hres := (res_intro (F := F) c) $$ [Hex Hs0 Hs1]
  · iframe # ∗
  icases Hres with ⟨Hslot, Hres⟩
  iapply (body_run (ins m) K c W)
  isplitr [Hp]
  · iframe # ∗
  iintro ⟨Hins, Hout, Hend, Hb, ⟨%W', HO⟩⟩
  ihave Hend := (end_elim (F := F) c) $$ Hend
  icases Hend with ⟨Hsems, Hs0, Hs1⟩
  ihave Hs0 := (send_join (F := F) c) $$ Hs0
  ihave Hs1 := (comm_join (F := F) c) $$ Hs1
  ihave Hout := (outAt_elim c _) $$ Hout
  iapply (post_intro m c W')
  isplitl [Hb Hsems Hs0 Hs1 Hp]
  · unfold Φ₁ Yk scratches; iframe # ∗
  isplitl [HO]; · iexact HO
  isplitl [Hins]; · iexact Hins
  iexact Hout

/-- The obligation of the region's body. -/
theorem body_obligation (c : Dev nD) : BodyObligation (dat m c) (defs₀ (F := F)) 𝒱₀ () Set.univ := fun t => by
  rw [Gen.fin_N0 t]
  rw [Gen.bigSep_W0, Gen.bigSep_W0]
  simp only [owns_whole]
  show pre m c ⊢ wp frame (wpE (defs₀ (F := F)) 𝒱₀ c none) Set.univ
    (cc0__body (F := F) xM (Memref.isWhole_whole _) wqM (Memref.isWhole_whole _) kM (Memref.isWhole_whole _) vM (Memref.isWhole_whole _)
      woM (Memref.isWhole_whole _) outM (Memref.isWhole_whole _) sendM (Memref.isWhole_whole _) commM (Memref.isWhole_whole _)
      cc0_scratch2 cc0_scratch3) (fun _ => post m c)
  rw [body_eq_flat]
  exact point_run m c

end Cert.KProof
-- ==== Proof.Seg.lean ====
module

public import proofs.«01_k».proof.Proof.Region

@[expose] public section

set_option maxRecDepth 16384

noncomputable section

/-! # The region's record

The cells of the copies are opened on entry; the arrays, the other buffers and the debts are threaded. -/

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal
open Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ)

/-! ## The kernel's own counters -/

/-- The copies' semaphores: of each exchange the send one and the arrival one. -/
abbrev Own : Type := (Fin 5 × Fin 2) × Fin 2
def osem : Own → SemLoc sig
  | (x, 0) => .dma (sendS x.2 x.1)
  | (x, 1) => .dma (recvS x.2 x.1)

theorem osem_facts : Pipeline.OwnSemFacts spec0 osem := by decide

theorem own_sems (c : Dev nD) : (Pipeline.ownSems0 osem c : sProp 𝕄) = both (exSems (F := F) c) := by
  unfold Pipeline.ownSems0
  rw [← both_eq, bigSep_univ_prod]
  exact bigSep_congr fun x _ => BI.bigSep_fin_two (fun j : Fin 2 => (semVal ((c : Thread nD τ), osem (x, j)) 0 : sProp 𝕄))

/-- Updates of a family, each with the same shared facts at hand, are one update of the family. -/
theorem fam_update {I : Type} [DecidableEq I] (S : Finset I) (R : sProp 𝕄) [BI.Persistent R] (Φ Ψ : I → sProp 𝕄)
    (h : ∀ i, iprop(R ∗ Φ i) ⊢ |={Set.univ}=> Ψ i) : iprop(R ∗ bigSep S Φ) ⊢ |={Set.univ}=> bigSep S Ψ := by
  induction S using Finset.induction_on with
  | empty =>
    rw [bigSep_empty, bigSep_empty]
    iintro ⟨-, H⟩; imodintro; iexact H
  | insert i S hi ih =>
    rw [bigSep_insert hi, bigSep_insert hi]
    show iprop(R ∗ (Φ i ∗ bigSep S Φ)) ⊢ |={Set.univ}=> iprop(Ψ i ∗ bigSep S Ψ)
    iintro ⟨#HR, Hi, HS⟩
    imod (h i) $$ [Hi] with Hi
    · isplitr; · iexact HR
      iexact Hi
    imod ih $$ [HS] with HS
    · isplitr; · iexact HR
      iexact HS
    imodintro
    isplitl [Hi] <;> iassumption

/-- One exchange's two cells are opened with their counters. -/
theorem ex_open (K : GSem nD τ sig → ℕ) (c : Dev nD) (h : Fin 2) (k : Fin 5) :
    iprop(Inv (parts (ins m)) K ∗ (exShut (F := F) c h k ∗ exSems (F := F) c h k)) ⊢ |={Set.univ}=> exOpen (F := F) c h k := by
  unfold exShut exSems exOpen
  iintro ⟨#HI, ⟨⟨Ho, Ho'⟩, Hrest⟩, Hs, Hs'⟩
  imod (Rounds.cell_open ER (talkRd (parts (ins m))) (g := sendCell c h k) (Set.mem_univ (K (sendCell c h k)))) $$ [Ho Hs] with ⟨Ha, #Hr⟩
  · isplitr; · iapply (inv_send (parts (ins m)) K c h k); iexact HI
    isplitl [Ho] <;> iassumption
  imod (Rounds.cell_open ER (talkRd (parts (ins m))) (g := recvCell c h k) (Set.mem_univ (K (recvCell c h k)))) $$ [Ho' Hs'] with ⟨Ha', #Hr'⟩
  · isplitr; · iapply (inv_recv (parts (ins m)) K c h k); iexact HI
    isplitl [Ho'] <;> iassumption
  imodintro
  isplitr [Hrest]
  · iframe # ∗
  iexact Hrest

/-- On entry every cell of the copies is opened. -/
theorem region_open (c : Dev nD) : iprop(Tk m c ∗ Pipeline.ownSems0 osem c ∗ levAts L lv) ⊢ (|={Set.univ}=> Xk m c : sProp 𝕄) := by
  rw [own_sems]
  unfold Tk Xk shared
  iintro ⟨⟨⟨⟨%K, #HI⟩, #HR⟩, Hex, Hb⟩, Hs, #Hlev⟩
  imod (fam_update Finset.univ (Inv (parts (ins m)) K) (fun x : Fin 5 × Fin 2 => iprop(exShut (F := F) c x.2 x.1 ∗ exSems (F := F) c x.2 x.1))
    (fun x => exOpen (F := F) c x.2 x.1) (fun x => ex_open m K c x.2 x.1)) $$ [Hex Hs] with Hop
  · isplitr; · iexact HI
    rw [sep_fam (fun x : Fin 5 × Fin 2 => exShut (F := F) c x.2 x.1), both_eq, both_eq]
    isplitl [Hex] <;> iassumption
  imodintro
  isplitl [Hop Hb]
  · iexists K
    isplitr; · iexact HI
    isplitr; · iexact HR
    isplitl [Hop]; · rw [← both_eq]; iexact Hop
    iexact Hb
  iexact Hlev

/-! ## The record -/

/-- The data of the program's one region. -/
def pdats : (p : Fin 1) → (c : Dev nD) → Dat τ (Elt F) Unit ℕ UU ℕ (cfgs p) c := fun _ => dat m

theorem share_full (c : Dev nD) (w : Fin 6) : (dat m c).share w = fullShare := by unfold Dat.share; split <;> rfl

/-- A device's buffers after the region: the result's array holds the result. -/
def V2 (c : Dev nD) : Valuation τ sig (Elt F) := Function.update (Gen.V1 m c) main_v15 (result m c)

theorem V2_result (c : Dev nD) : V2 m c main_v15 = result m c := Function.update_self _ _ _
theorem V2_of (c : Dev nD) (r : Ref sig .tc) (h : r ≠ main_v15) : V2 m c r = Gen.V1 m c r :=
  Function.update_of_ne (StableHlo.devRef_ne_of_ne h) _ _

/-- Written back whole, a window's array holds what its buffer held. -/
theorem write_all (b : Ref sig .tc) (off : Fin b.ty.shape.rank → ℕ) (h : off = fun _ => 0) (inb) (hs) (f w : b.ty.Contents (Elt F)) :
    ((Memref.whole b).slice (Rect.unit off b.ty.shape.size inb) hs).view.write (Elt F) f w Finset.univ = w := by
  subst h
  exact Memref.write_access_whole_univ (Elt F) b f w

theorem arr_result (c : Dev nD) : (dat m c).arrAt (5 : Fin 6) cfg0.N = result m c := by
  have h (f w : (main_v15 : Ref sig .tc).ty.Contents (Elt F)) : (win0_5.blk Gen.t0_0).view.write (Elt F) f w Finset.univ = w :=
    write_all (F := F) main_v15 _ (zero_off (win0_5.size) _ fun _ => rfl) _ (fun _ => rfl) f w
  rw [show cfg0.N = 0 + 1 from Gen.N_0]
  unfold Dat.arrAt
  rw [dif_pos (show 0 < cfg0.N by rw [show cfg0.N = 1 from Gen.N_0]; decide)]
  rw [if_pos (Gen.flush0_5 _)]
  show (win0_5.blk Gen.t0_0).view.write (Elt F) (Gen.V1 m c main_v15) ((dat m c).flushed (5 : Fin 6) Gen.t0_0) Finset.univ = result m c
  rw [h]
  rfl

/-- A window's array before the region. -/
theorem arr_before (c : Dev nD) (w : Fin 6) : (dat m c).arrAt w 0 = Gen.V1 m c (Proc.devRef .tc (Pipeline.arrRef spec0 w)) := rfl

/-- A window's array after the region. -/
theorem arr_after (c : Dev nD) (w : Fin 6) : (dat m c).arrAt w cfg0.N = V2 m c (Proc.devRef .tc (Pipeline.arrRef spec0 w)) := by
  match w with
  | 0 => exact ((dat m c).arrAt_in (0 : Fin 6) rfl _).trans (V2_of m c main_arg0 (by decide)).symm
  | 1 => exact ((dat m c).arrAt_in (1 : Fin 6) rfl _).trans (V2_of m c main_arg1 (by decide)).symm
  | 2 => exact ((dat m c).arrAt_in (2 : Fin 6) rfl _).trans (V2_of m c main_v9 (by decide)).symm
  | 3 => exact ((dat m c).arrAt_in (3 : Fin 6) rfl _).trans (V2_of m c main_v14 (by decide)).symm
  | 4 => exact ((dat m c).arrAt_in (4 : Fin 6) rfl _).trans (V2_of m c main_arg4 (by decide)).symm
  | 5 => exact (arr_result m c).trans (V2_result m c).symm

theorem kit : Pipeline.PLaunchFacts (nD := nD) (τ := τ) (pcfgs (F := F)) 0 where
  cellOf_inj a := by rw [Subsingleton.elim a Gen.adm]; exact Gen.cellOf_inj
  win := Gen.winFacts0
  pre := Pipeline.PreFacts.none _
  block_pos := Gen.block_pos0
  arr_whole := Gen.arr_whole0
  stage_whole := Gen.stage_whole0

/-- The unscoped buffers that are no window's array. -/
def otherRefs : Finset (DevRef τ sig) := Pipeline.ucRefs τ sig \ Pipeline.arrRefs spec0

theorem rest_kept (c : Dev nD) (b : DevRef τ sig) (hb : b ∈ otherRefs \ ∅) : V2 m c b = Gen.V1 m c b := by
  unfold V2
  refine Function.update_of_ne (fun h => ?_) _ _
  rw [Finset.sdiff_empty, h] at hb
  refine (Finset.mem_sdiff.mp hb).2 (Finset.mem_map_of_mem _ (Finset.mem_image.mpr ⟨5, Finset.mem_univ _, rfl⟩))

theorem rest_eq (c : Dev nD) : (Pipeline.scopedRest (Ix := Unit) (Name := ℕ) (U := UU) (Lvl := ℕ) (Val := Elt F) spec0 c : sProp 𝕄) = scratches (F := F) c :=
  Gen.scopedRest0_eq c

theorem held_none (c : Dev nD) (W : Valuation τ sig (Elt F)) : (StableHlo.held (c.tc : Thread nD τ) ∅ W : sProp 𝕄) = BI.emp := by
  unfold StableHlo.held; exact BI.bigSep_empty

theorem region_in (c : Dev nD) : iprop(Pipeline.scopedRest (Pipeline.pin (pcfgs (F := F)) Gen.adm 0).spec c ∗ (∃ r, prngReg c r)
    ∗ StableHlo.held (c.tc : Thread nD τ) ∅ (Gen.V1 m c) ∗ Xk m c) ⊢ (pdats m 0 c).Φ 0 := by
  rw [show (pdats m 0 c).Φ 0 = Φ₀ m c from rfl, show (Pipeline.pin (pcfgs (F := F)) Gen.adm 0).spec = spec0 from rfl, rest_eq, held_none]
  unfold Φ₀ prngAny
  iintro ⟨Hs, Hp, -, HX⟩
  isplitl [HX]; · iexact HX
  isplitl [Hs] <;> iassumption

theorem region_out (c : Dev nD) : (pdats m 0 c).Φ (Fin.last (Pipeline.pin (pcfgs (F := F)) Gen.adm 0).N)
    ⊢ iprop(Pipeline.scopedRest (Pipeline.pin (pcfgs (F := F)) Gen.adm 0).spec c ∗ (∃ r, prngReg c r)
      ∗ StableHlo.held (c.tc : Thread nD τ) ∅ (V2 m c) ∗ Pipeline.ownSems0 osem c ∗ Yk (F := F) c) := by
  rw [show (pdats m 0 c).Φ (Fin.last (Pipeline.pin (pcfgs (F := F)) Gen.adm 0).N) = Φ₁ (F := F) c from rfl,
    show (Pipeline.pin (pcfgs (F := F)) Gen.adm 0).spec = spec0 from rfl, rest_eq, held_none, own_sems]
  unfold Φ₁ prngAny
  iintro ⟨HY, Ho, Hs, Hp⟩
  isplitl [Hs]; · iexact Hs
  isplitl [Hp]; · iexact Hp
  isplitr; · iempintro
  isplitl [Ho] <;> iassumption

/-- Staging waits lie below every debt. -/
theorem cut : Pipeline.LevelCutOwed (pcfgs (F := F)) Gen.adm (pdats m) () L lv 0 (fun _ => 0) where
  hι c w s := by rw [L_tc]; exact Finset.mem_singleton_self _
  hιb := by
    show ∀ (c : Dev nD) (w : Fin 6) (s : Fin (win0 w).nbuf), lv ((c : Thread nD τ), .dma ((win0 w).sem s)) () ≤ 0
    intro c w s
    exact (by decide : ∀ (w : Fin 6) (s : Fin (win0 w).nbuf), lvOf (.dma ((win0 w).sem s)) ≤ 0) w s
  hD c t g i h := by
    have h' : 0 < O₀ c g i := by
      match t, h with
      | ⟨0, _⟩, h => exact h
      | ⟨_ + 1, _⟩, h => exact absurd h (Nat.lt_irrefl 0)
    obtain ⟨h1, h2⟩ := O₀_mem c g i h'
    exact ⟨by unfold L; rw [if_pos h1]; exact Finset.mem_singleton_self _, h2⟩

set_option backward.isDefEq.respectTransparency.types false in
/-- The record of the kernel's region. -/
def region : Pipeline.RegionSeg (pcfgs (F := F)) Gen.adm (pdats m) () defs₀ 𝒱₀ L lv 0 :=
  Pipeline.RegionSeg.ofTalk (pcfgs (F := F)) Gen.adm (pdats m) () defs₀ 𝒱₀ L lv 0 osem osem_facts
    ∅ otherRefs (Finset.empty_subset _) kit rfl (fun c => (body_obligation m c).loose)
    (fun _ => 0) O₀ (fun c => (zero_add _).symm) (fun _ => rfl) (fun _ => rfl) (share_full m)
    (Gen.V1 m) (V2 m) (rest_kept m)
    (Tk m) Yk (Xk m) Yk (region_open m) (region_in m) (region_out m)
    (fun c => by iintro H; imodintro; iexact H)
    (fun _ => 0) (cut m) (fun _ => iprop(emp))
    (arr_before m) (arr_after m)

theorem arr_sub : Pipeline.arrRefs (τ := τ) spec0 ⊆ Pipeline.ucRefs τ sig :=
  Pipeline.arrRefs_sub_ucRefs spec0 (by decide)

/-- What rides beside the buffers up to the region. -/
def rideIn (c : Dev nD) : sProp 𝕄 := iprop(Tk m c ∗ prngAny (F := F) c ∗ ∃ W, owes (c : Thread nD τ) (O₀ c) W)
/-- What rides beside them after it. -/
def rideOut (c : Dev nD) : sProp 𝕄 := iprop(semVal (barCell c) 0 ∗ ∃ W, owes (c : Thread nD τ) (0 : CellTallies nD τ sig Unit) W)

theorem region_pre (c : Dev nD) : iprop(StableHlo.held (c : Thread nD τ) (Pipeline.ucRefs τ sig) (Gen.V1 m c) ∗ rideIn m c) ⊢ (region m).pre c := by
  show _ ⊢ iprop(StableHlo.held (c.tc : Thread nD τ) (Pipeline.arrRefs (τ := τ) spec0) (Gen.V1 m c) ∗ (∃ r, prngReg c r)
    ∗ (StableHlo.held (c.tc : Thread nD τ) otherRefs (Gen.V1 m c) ∗ emp) ∗ Tk m c ∗ ∃ Wd, owes (c : Thread nD τ) (0 + O₀ c) Wd)
  rw [StableHlo.held_sub_split (c.tc : Thread nD τ) arr_sub (Gen.V1 m c), zero_add]
  unfold rideIn prngAny otherRefs
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem region_post (c : Dev nD) : (region m).post c ⊢ iprop(StableHlo.held (c : Thread nD τ) (Pipeline.ucRefs τ sig) (V2 m c) ∗ rideOut (F := F) c) := by
  show iprop(StableHlo.held (c.tc : Thread nD τ) (Pipeline.arrRefs (τ := τ) spec0) (V2 m c) ∗ (∃ r, prngReg c r)
    ∗ (StableHlo.held (c.tc : Thread nD τ) otherRefs (V2 m c) ∗ emp) ∗ Yk (F := F) c ∗ ∃ Wd, owes (c : Thread nD τ) (0 : CellTallies nD τ sig Unit) Wd) ⊢ _
  rw [StableHlo.held_sub_split (c.tc : Thread nD τ) arr_sub (V2 m c)]
  unfold rideOut Yk otherRefs
  iintro ⟨Ha, -, ⟨Hr, -⟩, Hb, HO⟩
  isplitl [Ha Hr]; · isplitl [Ha] <;> iassumption
  isplitl [Hb] <;> iassumption

end Cert.KProof
-- ==== Proof.Credit.lean ====
module

public import proofs.«01_k».proof.Proof.Seg

@[expose] public section

set_option maxRecDepth 16384

noncomputable section

/-! # What each cell may expect

Summed over the devices, what is owed at the start to one cell: five units to a barrier, one copy to an arrival cell. -/

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Cert.KernelIdeal.Facts₀ Cert.KernelIdeal.Facts

variable {F : FTy → Type} [FloatOps F]

local notation "𝕄" => MT nD τ sig Unit (Elt F) ℕ UU ℕ

/-- A cell's device. -/
theorem cell_dev {c d : Dev nD} {s s' : SemLoc sig} (h : (((c : Thread nD τ), s) : GSem nD τ sig) = ((d : Thread nD τ), s')) : c = d :=
  congrArg (fun g : GSem nD τ sig => g.1.1) h

theorem recv_inj {c d : Dev nD} {h h' : Fin 2} {k k' : Fin 5} (e : recvCell c h k = recvCell d h' k') : c = d ∧ h = h' ∧ k = k' := by
  have h1 : sendS h k = sendS h k := rfl
  have h2 : recvS h k = recvS h' k' := by injection congrArg Prod.snd e
  have h3 := congrArg decode h2
  rw [decode_recv, decode_recv] at h3
  injection h3 with h3
  exact ⟨cell_dev e, congrArg (fun x : Bool × Fin 2 × Fin 5 => x.2.1) h3, congrArg (fun x : Bool × Fin 2 × Fin 5 => x.2.2) h3⟩

theorem bar_ne_recv (c d : Dev nD) (h : Fin 2) (k : Fin 5) : barCell c ≠ recvCell d h k := fun e => nomatch congrArg Prod.snd e

theorem owesBar_bar (d c : Dev nD) (s : Fin 5) : owesBar d s (barCell c) () = if d = peer s c then 1 else 0 := by
  rw [tallyAt_apply]
  refine if_congr ⟨fun h => ?_, fun h => ?_⟩ rfl rfl
  · rw [cell_dev h.1, peer_peer]
  · rw [h, peer_peer]; exact ⟨rfl, rfl⟩
theorem owesBar_recv (d c : Dev nD) (s : Fin 5) (h : Fin 2) (k : Fin 5) : owesBar d s (recvCell c h k) () = 0 := by
  rw [tallyAt_apply, if_neg fun e => bar_ne_recv _ _ _ _ e.1.symm]
theorem due_bar (d c : Dev nD) : due d 0 (barCell c) () = 0 := by
  refine Nat.eq_zero_of_not_pos fun hp => ?_
  obtain ⟨h, i, -, e⟩ := due_mem d 0 _ _ hp
  exact bar_ne_recv _ _ _ _ e
theorem owesRecv_recv (d c : Dev nD) (h h' : Fin 2) (k k' : Fin 5) :
    owesRecv d h' k' (recvCell c h k) () = if d = peer (ord h k) c ∧ h' = h ∧ k' = k then N else 0 := by
  rw [tallyAt_apply]
  refine if_congr ⟨fun e => ?_, fun e => ?_⟩ rfl rfl
  · obtain ⟨e1, e2, e3⟩ := recv_inj e.1
    subst e2; subst e3
    exact ⟨by rw [e1, peer_peer], rfl, rfl⟩
  · obtain ⟨rfl, rfl, rfl⟩ := e
    exact ⟨by rw [peer_peer], rfl⟩

theorem due_recv (d c : Dev nD) (h : Fin 2) (k : Fin 5) : due d 0 (recvCell c h k) () = if d = peer (ord h k) c then N else 0 := by
  unfold due
  rw [Finset.sum_apply, Finsupp.finset_sum_apply, Finset.sum_eq_single k]
  · rw [Pi.add_apply, Finsupp.add_apply, owesRecv_recv, owesRecv_recv]
    match h with
    | 0 => rw [if_neg (fun e => absurd e.2.1 (by decide)), Nat.zero_add]; simp
    | 1 => rw [if_neg (c := d = _ ∧ (0 : Fin 2) = 1 ∧ _) (fun e => absurd e.2.1 (by decide)), Nat.add_zero]; simp
  · intro i _ hi
    rw [Pi.add_apply, Finsupp.add_apply, owesRecv_recv, owesRecv_recv, if_neg fun e => hi e.2.2, if_neg fun e => hi e.2.2, Nat.add_zero]
  · intro hk
    exact absurd (Finset.mem_filter.mpr ⟨Finset.mem_univ k, Nat.zero_le k.val⟩) hk

theorem sum_one (c : Dev nD) (s : Fin 5) (n : ℕ) : ∑ d : Dev nD, (if d = peer s c then n else 0) = n := by
  rw [Finset.sum_ite_eq' Finset.univ (peer s c) fun _ => n, if_pos (Finset.mem_univ _)]

theorem sum_bar (c : Dev nD) : ∑ d : Dev nD, O₀ d (barCell c) () = 5 := by
  have h (d : Dev nD) : O₀ d (barCell c) () = (if d = peer 4 c then 1 else 0) + (if d = peer 3 c then 1 else 0) + (if d = peer 2 c then 1 else 0)
      + (if d = peer 1 c then 1 else 0) + (if d = peer 0 c then 1 else 0) := by
    unfold O₀
    simp only [Pi.add_apply, Finsupp.add_apply]
    rw [due_bar, owesBar_bar, owesBar_bar, owesBar_bar, owesBar_bar, owesBar_bar, Nat.zero_add]
  rw [Finset.sum_congr rfl fun d _ => h d]
  simp only [Finset.sum_add_distrib, sum_one]

theorem sum_recv (c : Dev nD) (h : Fin 2) (k : Fin 5) : ∑ d : Dev nD, O₀ d (recvCell c h k) () = N := by
  have e (d : Dev nD) : O₀ d (recvCell c h k) () = if d = peer (ord h k) c then N else 0 := by
    unfold O₀
    simp only [Pi.add_apply, Finsupp.add_apply]
    rw [due_recv, owesBar_recv, owesBar_recv, owesBar_recv, owesBar_recv, owesBar_recv]
    rfl
  rw [Finset.sum_congr rfl fun d _ => e d, sum_one]

theorem credit_cell (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  rw [Pipeline.launchCredit_owing, Finsupp.single_eq_same]
  exact h

/-- The arrival cells among a device's semaphores. -/
def recvEmb : Fin 5 × Fin 2 ↪ SemLoc sig := ⟨fun x => .dma (recvS x.2 x.1), fun x y h => by
  obtain ⟨-, h1, h2⟩ := recv_inj (c := 0) (d := 0) (congrArg (fun s => (((0 : Dev nD) : Thread nD τ), s)) h)
  exact Prod.ext h2 h1⟩

/-- What the launch deals a device: the credit of its barrier and of its arrival cells. -/
theorem credits (c : Dev nD) : (Pipeline.launchCred O₀ c : sProp 𝕄)
    ⊢ iprop(cred (tallyAt (barCell c) () 5) ∗ both (fun h k => cred (tallyAt (recvCell c h k) () N))) := by
  unfold Pipeline.launchCred
  rw [bigSep_univ_at _ (SemLoc.reg barS), credit_cell _ 5 (sum_bar c)]
  refine sep_mono_right ?_
  have hsub : (Finset.univ.map recvEmb : Finset (SemLoc sig)) ⊆ Finset.univ.erase (SemLoc.reg barS) := fun s hs => by
    obtain ⟨x, -, rfl⟩ := Finset.mem_map.mp hs
    exact Finset.mem_erase.mpr (And.intro (fun e => by injection e) (Finset.mem_univ _))
  refine (bigSep_subset hsub).trans ?_
  rw [bigSep_map, ← both_eq]
  refine bigSep_mono fun x _ => ?_
  show (cred (tallyOn (recvCell c x.2 x.1) (launchCredit (Pipeline.owing O₀) 0 (recvCell c x.2 x.1))) : sProp 𝕄) ⊢ cred (tallyAt (recvCell c x.2 x.1) () N)
  rw [credit_cell (recvCell c x.2 x.1) N (sum_recv c x.2 x.1)]

end Cert.KProof
-- ==== Proof.Launch.lean ====
module

public import proofs.«01_k».proof.Proof.Credit

@[expose] public section

set_option maxRecDepth 16384

noncomputable section

/-! # The launch

The start's ghost state and how it is dealt: each device gets the tokens of what it will send, its own cells' places and the credit of its own cells. -/

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal
open Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem osem_inj : Function.Injective osem := by decide

def barEmb : Dev nD ↪ GSem nD τ sig := ⟨barCell, fun _ _ h => cell_dev h⟩
def ownEmb : Dev nD × Own ↪ GSem nD τ sig := ⟨fun x => ((x.1 : Thread nD τ), osem x.2), fun _ _ h => Prod.ext (cell_dev h) (osem_inj (congrArg Prod.snd h))⟩
def barCells : Finset (GSem nD τ sig) := Finset.univ.map barEmb
def ownCells : Finset (GSem nD τ sig) := Finset.univ.map ownEmb

theorem osem_ne_bar : ∀ o : Own, osem o ≠ SemLoc.reg barS := by decide

theorem cells_disjoint : Disjoint barCells ownCells := Finset.disjoint_left.mpr fun g hb ho => by
  obtain ⟨c, -, rfl⟩ := Finset.mem_map.mp hb
  obtain ⟨x, -, e⟩ := Finset.mem_map.mp ho
  exact osem_ne_bar x.2 (congrArg Prod.snd e)

/-- One token per neighbour of each barrier, one per cell of the copies. -/
def tokEmb : Dev nD × (Fin 5 ⊕ Own) ↪ GSem nD τ sig × ℕ × Fin 5 :=
  ⟨fun x => match x with | (c, .inl s) => (barCell c, 0, s) | (c, .inr o) => (((c : Thread nD τ), osem o), 0, 0), by
    rintro ⟨c, s | o⟩ ⟨d, s' | o'⟩ h
    · have h1 := cell_dev (congrArg Prod.fst h)
      have h2 : s = s' := congrArg (fun x : GSem nD τ sig × ℕ × Fin 5 => x.2.2) h
      rw [h1, h2]
    · exact absurd (congrArg (fun x : GSem nD τ sig × ℕ × Fin 5 => x.1.2) h).symm (osem_ne_bar o')
    · exact absurd (congrArg (fun x : GSem nD τ sig × ℕ × Fin 5 => x.1.2) h) (osem_ne_bar o)
    · have h1 := cell_dev (congrArg Prod.fst h)
      have h2 := osem_inj (congrArg (fun x : GSem nD τ sig × ℕ × Fin 5 => x.1.2) h)
      rw [h1, h2]⟩
def toks : Finset (GSem nD τ sig × ℕ × Fin 5) := Finset.univ.map tokEmb

def u₀ : UU := (initOf (Pipeline.cells (Pipeline.pin (pcfgs (F := F)) Gen.adm) Gen.cellOf_inj) (Pipeline.launchToks (Pipeline.pin (pcfgs (F := F)) Gen.adm) Gen.cellOf_inj),
  launchOf barCells ownCells toks)

/-- A family of nothings is nothing. -/
theorem emps {I : Type} (S : Finset I) : bigSep S (fun _ : I => (iprop(emp) : sProp 𝕄)) = iprop(emp) := BI.bigSep_emp_const S

/-- The exchange's launch state is kept by device 0. -/
def G (c : Dev nD) : sProp 𝕄 := if c = 0 then BI.own (ER (launchOf barCells ownCells toks)) else iprop(emp)

theorem G_all : (bigSep Finset.univ (G (F := F)) : sProp 𝕄) = BI.own (ER (launchOf barCells ownCells toks)) := by
  rw [bigSep_univ_at _ (0 : Dev nD), bigSep_congr (s := Finset.univ.erase (0 : Dev nD)) (Ψ := fun _ => iprop(emp)) fun c hc => by
    unfold G; rw [if_neg (Finset.ne_of_mem_erase hc)], emps]
  unfold G
  rw [if_pos rfl]
  exact BI.equiv_iff.mp sep_emp

/-! ## The shared facts -/

/-- A shared fact gives every member of a family that follows from it. -/
theorem spread {I : Type} [DecidableEq I] (S : Finset I) (R : sProp 𝕄) [BI.Persistent R] (Ψ : I → sProp 𝕄) (h : ∀ i, R ⊢ Ψ i) : R ⊢ bigSep S Ψ := by
  iintro #H
  iapply (bigSep_with_persistent (S := S) (R := R) (Φ := fun _ => iprop(emp)) (Ψ := Ψ) fun i _ => by
    iintro ⟨#H, -⟩; iapply (h i); iexact H)
  isplitr; · iexact H
  rw [emps]
  iclear H; exact .rfl

theorem inv_of (P : Fin 2 → Dev nD → Vec F S2x128x256 .f32) (κ : GSem nD τ sig → ℕ) (R : sProp 𝕄) [BI.Persistent R]
    (h1 : ∀ c, R ⊢ cellInv ER (talkRd P) (κ (barCell c)) (barCell c))
    (h2 : ∀ c h k, R ⊢ cellInv ER (talkRd P) (κ (sendCell c h k)) (sendCell c h k))
    (h3 : ∀ c h k, R ⊢ cellInv ER (talkRd P) (κ (recvCell c h k)) (recvCell c h k)) : R ⊢ Inv P κ := by
  unfold Inv
  iintro #H
  isplitr
  · iapply (spread Finset.univ R (fun c : Dev nD => cellInv ER (talkRd P) (κ (barCell c)) (barCell c)) h1); iexact H
  isplitr
  · iapply (spread Finset.univ R (fun x : Slot => cellInv ER (talkRd P) (κ (sendCell x.1 x.2.1 x.2.2)) (sendCell x.1 x.2.1 x.2.2)) fun x => h2 x.1 x.2.1 x.2.2); iexact H
  · iapply (spread Finset.univ R (fun x : Slot => cellInv ER (talkRd P) (κ (recvCell x.1 x.2.1 x.2.2)) (recvCell x.1 x.2.1 x.2.2)) fun x => h3 x.1 x.2.1 x.2.2); iexact H

theorem mem_bar (c : Dev nD) : barCell c ∈ barCells ∪ ownCells := Finset.mem_union_left _ (Finset.mem_map.mpr ⟨c, Finset.mem_univ _, rfl⟩)
theorem mem_send (c : Dev nD) (h : Fin 2) (k : Fin 5) : sendCell c h k ∈ barCells ∪ ownCells :=
  Finset.mem_union_right _ (Finset.mem_map.mpr ⟨(c, ((k, h), 0)), Finset.mem_univ _, rfl⟩)
theorem mem_recv (c : Dev nD) (h : Fin 2) (k : Fin 5) : recvCell c h k ∈ barCells ∪ ownCells :=
  Finset.mem_union_right _ (Finset.mem_map.mpr ⟨(c, ((k, h), 1)), Finset.mem_univ _, rfl⟩)

theorem inv_intro (P : Fin 2 → Dev nD → Vec F S2x128x256 .f32) (κ : GSem nD τ sig → ℕ) :
    (bigSep (barCells ∪ ownCells) (fun g => cellInv ER (talkRd P) (κ g) g) : sProp 𝕄) ⊢ Inv P κ :=
  inv_of P κ _ (fun c => bigSep_elim (Φ := fun g => cellInv ER (talkRd P) (κ g) g) (mem_bar c))
    (fun c h k => bigSep_elim (Φ := fun g => cellInv ER (talkRd P) (κ g) g) (mem_send c h k))
    (fun c h k => bigSep_elim (Φ := fun g => cellInv ER (talkRd P) (κ g) g) (mem_recv c h k))

/-! ## Dealing the tokens -/

/-- A family over the devices and a second index, read at a partner of each device. -/
theorem regroup {S : Type} [Fintype S] [DecidableEq S] (e : S → Dev nD ≃ Dev nD) (Φ : Dev nD → S → sProp 𝕄) :
    bigSep Finset.univ (fun c : Dev nD => bigSep Finset.univ (Φ c)) = bigSep Finset.univ (fun c : Dev nD => bigSep Finset.univ fun s => Φ (e s c) s) := by
  rw [← bigSep_univ_prod (fun x : Dev nD × S => Φ x.1 x.2), ← bigSep_univ_prod (fun x : Dev nD × S => Φ (e x.2 x.1) x.2)]
  exact bigSep_univ_equiv (⟨fun x => (e x.2 x.1, x.2), fun x => ((e x.2).symm x.1, x.2), fun x => by simp, fun x => by simp⟩ : Dev nD × S ≃ Dev nD × S)
    (fun x : Dev nD × S => Φ x.1 x.2)

/-- The tokens, each dealt to the device that will spend it. -/
theorem toks_deal : (bigSep toks (fun x => dutyTok ER x.1 x.2.1 x.2.2) : sProp 𝕄)
    ⊢ bigSep Finset.univ (fun c : Dev nD => iprop(bigSep Finset.univ (fun s : Fin 5 => dutyTok ER (barCell (peer s c)) 0 s)
        ∗ both (fun h k => iprop(dutyTok ER (sendCell c h k) 0 0 ∗ dutyTok ER (recvCell (peer (ord h k) c) h k) 0 0)))) := by
  have hbar : bigSep Finset.univ (fun c : Dev nD => bigSep Finset.univ fun s : Fin 5 => (dutyTok ER (barCell c) 0 s : sProp 𝕄))
      = bigSep Finset.univ fun c : Dev nD => bigSep Finset.univ fun s : Fin 5 => dutyTok ER (barCell (peer s c)) 0 s :=
    regroup (fun s => peerEquiv s) fun c s => dutyTok ER (barCell c) 0 s
  have hrecv : bigSep Finset.univ (fun c : Dev nD => bigSep Finset.univ fun x : Fin 5 × Fin 2 => (dutyTok ER (recvCell c x.2 x.1) 0 0 : sProp 𝕄))
      = bigSep Finset.univ fun c : Dev nD => bigSep Finset.univ fun x : Fin 5 × Fin 2 => dutyTok ER (recvCell (peer (ord x.2 x.1) c) x.2 x.1) 0 0 :=
    regroup (fun x : Fin 5 × Fin 2 => peerEquiv (ord x.2 x.1)) fun c x => dutyTok ER (recvCell c x.2 x.1) 0 0
  have hown (c : Dev nD) : (bigSep Finset.univ fun o : Own => (dutyTok ER ((c : Thread nD τ), osem o) 0 0 : sProp 𝕄))
      = iprop(bigSep Finset.univ (fun x : Fin 5 × Fin 2 => dutyTok ER (sendCell c x.2 x.1) 0 0)
        ∗ bigSep Finset.univ (fun x : Fin 5 × Fin 2 => dutyTok ER (recvCell c x.2 x.1) 0 0)) := by
    rw [bigSep_univ_prod, ← bigSep_sep']
    exact bigSep_congr fun x _ => BI.bigSep_fin_two (fun j : Fin 2 => (dutyTok ER ((c : Thread nD τ), osem (x, j)) 0 0 : sProp 𝕄))
  have hdev (c : Dev nD) : (bigSep Finset.univ fun y : Fin 5 ⊕ Own => (fun x : GSem nD τ sig × ℕ × Fin 5 => (dutyTok ER x.1 x.2.1 x.2.2 : sProp 𝕄)) (tokEmb (c, y)))
      = iprop(bigSep Finset.univ (fun s : Fin 5 => dutyTok ER (barCell c) 0 s)
        ∗ bigSep Finset.univ (fun x : Fin 5 × Fin 2 => dutyTok ER (sendCell c x.2 x.1) 0 0)
        ∗ bigSep Finset.univ (fun x : Fin 5 × Fin 2 => dutyTok ER (recvCell c x.2 x.1) 0 0)) := by
    rw [BI.bigSep_univ_sum, ← hown c]
    rfl
  unfold toks
  rw [bigSep_map, bigSep_univ_prod, bigSep_congr fun c _ => hdev c, bigSep_sep', bigSep_sep', hbar, hrecv, ← bigSep_sep', ← bigSep_sep']
  have h1 (c : Dev nD) : iprop(bigSep Finset.univ (fun x : Fin 5 × Fin 2 => (dutyTok ER (sendCell c x.2 x.1) 0 0 : sProp 𝕄))
        ∗ bigSep Finset.univ (fun x : Fin 5 × Fin 2 => dutyTok ER (recvCell (peer (ord x.2 x.1) c) x.2 x.1) 0 0))
      = both (fun h k => iprop(dutyTok ER (sendCell c h k) 0 0 ∗ dutyTok ER (recvCell (peer (ord h k) c) h k) 0 0)) := by
    rw [← both_eq, bigSep_sep']
  rw [bigSep_congr fun c _ => by rw [h1 c]]

/-! ## The deal -/

theorem bar_sem (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem open_deal : (bigSep ownCells (fun g => openTok ER g) : sProp 𝕄)
    = bigSep Finset.univ fun c : Dev nD => both (fun h k => iprop(openTok ER (sendCell c h k) ∗ openTok ER (recvCell c h k))) := by
  unfold ownCells
  rw [bigSep_map, bigSep_univ_prod]
  refine bigSep_congr fun c _ => ?_
  rw [← both_eq, bigSep_univ_prod]
  exact bigSep_congr fun x _ => BI.bigSep_fin_two (fun j : Fin 2 => (openTok ER ((c : Thread nD τ), osem (x, j)) : sProp 𝕄))

/-- What a device holds of its own before the deal, but for its barrier's counter. -/
def mine (c : Dev nD) : sProp 𝕄 :=
  iprop(StableHlo.held (c : Thread nD τ) (Pipeline.ucRefs τ sig) (Gen.V0 m c) ∗ owes (c : Thread nD τ) (O₀ c) ∅
    ∗ (cred (tallyAt (barCell c) () 5) ∗ both (fun h k => cred (tallyAt (recvCell c h k) () N))) ∗ prngAny (F := F) c)

theorem mine_intro (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G (F := F) c)
    ⊢ (iprop(mine m c ∗ semVal (barCell c) 0 ∗ G c) : sProp 𝕄) := by
  rw [bar_sem, show unscopedBufs c (fun b => m ((c : Thread nD τ).loc b)) = StableHlo.held (c : Thread nD τ) (Pipeline.ucRefs τ sig) (Gen.V0 m c)
    from Pipeline.unscopedBufs_held c (Gen.V0 m c)]
  unfold mine prngAny
  iintro ⟨Hh, Hs, HO, Hc, Hp, HG⟩
  ihave Hc' := (credits (F := F) c) $$ Hc
  isplitr [Hs HG]
  · isplitl [Hh]; · iexact Hh
    isplitl [HO]; · iexact HO
    isplitl [Hc']; · iexact Hc'
    iexists (ρ c); iexact Hp
  · isplitl [Hs] <;> iassumption

theorem entails_of {A B : sProp 𝕄} (h : A = B) : A ⊢ B := by rw [h]

/-- Two families side by side are one family of pairs. -/
theorem join_fam (Φ Ψ : Dev nD → sProp 𝕄) : iprop(bigSep Finset.univ Φ ∗ bigSep Finset.univ Ψ) ⊢ bigSep Finset.univ fun c => iprop(Φ c ∗ Ψ c) := by
  rw [bigSep_sep']

/-- What the deal adds. -/
def dealt (c : Dev nD) : sProp 𝕄 :=
  iprop(atPos ER (barCell c) 0 ∅ 0 ∗ both (fun h k => iprop(openTok ER (sendCell c h k) ∗ openTok ER (recvCell c h k)))
    ∗ bigSep Finset.univ (fun s : Fin 5 => dutyTok ER (barCell (peer s c)) 0 s)
    ∗ both (fun h k => iprop(dutyTok ER (sendCell c h k) 0 0 ∗ dutyTok ER (recvCell (peer (ord h k) c) h k) 0 0)))

theorem both_sep (R S : Fin 2 → Fin 5 → sProp 𝕄) : iprop(both R ∗ both S) ⊢ both (fun h k => iprop(R h k ∗ S h k)) := by
  rw [← both_eq, ← both_eq, ← both_eq, bigSep_sep']

theorem both_mono {R S : Fin 2 → Fin 5 → sProp 𝕄} (h : ∀ a k, R a k ⊢ S a k) : both R ⊢ both S := by
  rw [← both_eq, ← both_eq]
  exact bigSep_mono fun x _ => h x.2 x.1

instance shared_persistent : BI.Persistent (shared m) := by unfold shared; infer_instance

theorem ride_intro (c : Dev nD) : iprop(shared m ∗ (dealt (F := F) c ∗ mine m c))
    ⊢ (iprop(StableHlo.held (c : Thread nD τ) (Pipeline.ucRefs τ sig) (Gen.V0 m c) ∗ rideIn m c) : sProp 𝕄) := by
  unfold dealt mine rideIn Tk barRes
  iintro ⟨HR, ⟨Hat, Hop, Hb, Htk⟩, Hh, HO, ⟨Hc5, HcN⟩, Hp⟩
  isplitl [Hh]; · iexact Hh
  isplitr [Hp HO]
  · isplitl [HR]; · iexact HR
    isplitl [Hop HcN Htk]
    · iapply (both_mono (F := F) (R := fun h k => iprop((openTok ER (sendCell c h k) ∗ openTok ER (recvCell c h k))
          ∗ ((dutyTok ER (sendCell c h k) 0 0 ∗ dutyTok ER (recvCell (peer (ord h k) c) h k) 0 0) ∗ cred (tallyAt (recvCell c h k) () N)))) fun h k =>
        show iprop((openTok ER (sendCell c h k) ∗ openTok ER (recvCell c h k))
          ∗ ((dutyTok ER (sendCell c h k) 0 0 ∗ dutyTok ER (recvCell (peer (ord h k) c) h k) 0 0) ∗ cred (tallyAt (recvCell c h k) () N))) ⊢ exShut c h k from by
        unfold exShut
        iintro ⟨H1, ⟨H2, H3⟩, H4⟩
        iframe # ∗)
      iapply (both_sep (F := F) _ _)
      isplitl [Hop]; · iexact Hop
      iapply (both_sep (F := F) _ _)
      isplitl [Htk] <;> iassumption
    · isplitl [Hb]; · iexact Hb
      isplitl [Hc5] <;> iassumption
  · isplitl [Hp]; · iexact Hp
    iexists ∅; iexact HO

/-- The launch: from what the machine hands out, every device's buffers and what rides beside them. -/
theorem deal : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G (F := F) c)) ∗ levAts L lv)
    ⊢ (|={Set.univ}=> bigSep Finset.univ (fun c : Dev nD =>
      iprop(StableHlo.held (c : Thread nD τ) (Pipeline.ucRefs τ sig) (Gen.V0 m c) ∗ rideIn m c)) : sProp 𝕄) := by
  have hsplit : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G (F := F) c))
      ⊢ (iprop(bigSep Finset.univ (mine m) ∗ bigSep barCells (fun g => semVal g 0) ∗ BI.own (ER (launchOf barCells ownCells toks))) : sProp 𝕄) := by
    refine (bigSep_mono fun c _ => mine_intro m ρ c).trans ?_
    rw [bigSep_sep', bigSep_sep', G_all, show bigSep barCells (fun g => (semVal g 0 : sProp 𝕄)) = bigSep Finset.univ fun c : Dev nD => semVal (barCell c) 0
      from bigSep_map (s := Finset.univ) barEmb (Φ := fun g : GSem nD τ sig => (semVal g 0 : sProp 𝕄))]
    exact BI.Entails.refl _
  have hat : (bigSep barCells (fun g => atPos ER g 0 ∅ 0) : sProp 𝕄) = bigSep Finset.univ fun c : Dev nD => atPos ER (barCell c) 0 ∅ 0 :=
    bigSep_map (s := Finset.univ) barEmb (Φ := fun g : GSem nD τ sig => (atPos ER g 0 ∅ 0 : sProp 𝕄))
  have hreach : (bigSep barCells (fun g => reached ER g 0) : sProp 𝕄) = BarReached :=
    bigSep_map (s := Finset.univ) barEmb (Φ := fun g : GSem nD τ sig => (reached ER g 0 : sProp 𝕄))
  iintro ⟨H, -⟩
  ihave H' := hsplit $$ H
  icases H' with ⟨Hm, Hv, Hu⟩
  imod (Rounds.fund_launch ER (talkRd (parts (ins m))) cells_disjoint (fun g _ h => h) toks) $$ [Hv Hu] with ⟨%κ, -, #Hinv, #Hr, Hat, Hopen, Htok⟩
  · isplitl [Hv] <;> iassumption
  imodintro
  ihave Htok' := (toks_deal (F := F)) $$ Htok
  ihave #Hinv' := (inv_intro (parts (ins m)) κ) $$ Hinv
  iapply (bigSep_with_persistent (R := shared m) (Φ := fun c => iprop(dealt c ∗ mine m c)) fun c _ => ride_intro m c)
  isplitr
  · unfold shared
    isplitr
    · iexists κ; iexact Hinv'
    · rw [← hreach]; iexact Hr
  iapply (join_fam (F := F) _ _)
  isplitr [Hm]
  · unfold dealt
    iapply (join_fam (F := F) _ _)
    isplitl [Hat]; · iapply (entails_of hat); iexact Hat
    iapply (join_fam (F := F) _ _)
    isplitl [Hopen]; · iapply (entails_of (open_deal (F := F))); iexact Hopen
    iexact Htok'
  · iexact Hm

end Cert.KProof
-- ==== Proof.Run.lean ====
module

public import proofs.«01_k».proof.Proof.Launch

@[expose] public section

set_option maxRecDepth 16384

noncomputable section

/-! # The run

Every device ends with the sum of all partial results in its result buffer, with its arguments as they were and every counter at zero. -/

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal
open Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ) (ρ : Dev nD → PrngReg)

theorem bar_only : ∀ sm : SemLoc sig, sm.isScoped .tc = false → sm = .reg barS := by decide

theorem listed {r : Ref sig .tc} (h : ¬ r.isScoped = true) : Proc.devRef .tc r ∈ Pipeline.ucRefs τ sig :=
  Finset.mem_filter.mpr ⟨StableHlo.devRef_mem_tcRefs r, h⟩

theorem kept (c : Dev nD) (r : Ref sig .tc) (h : r ≠ main_v15) (h' : r ∉ Gen.hostOps0_W) :
    V2 m c (Proc.devRef .tc r) = m ((c.tc : Thread nD τ).loc r) :=
  (V2_of m c r h).trans (Gen.V1_of m c r h')

set_option backward.isDefEq.respectTransparency.types false in
/-- The kernel runs, leaving every device the whole sum, its arguments and zero counters. -/
theorem run_main : θ_run defs (onTc (τ := τ) (main (F := F))) ⟨m, fun _ => 0, ρ⟩ (fun r =>
    (∀ c : Dev nD, r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) Gen.adm (pdats m) () Gen.cellOf_inj EP defs₀ 𝒱₀ L lv m ρ main
    (Gen.segs m 𝒱₀ L lv (fun _ => rideIn m) () (pdats m) (region m))
    (fun c Q => by
      rewrite [Gen.main_chain c, Pipeline.Seg.run_eq_chain,
        show (Gen.segs m 𝒱₀ L lv (fun _ => rideIn m) () (pdats m) (region m) c).map Pipeline.Seg.prog
          = [StableHlo.seq (Gen.hostOps0 c), Prog.lift (.customCall (Pipeline.entry 0) ())] from rfl]
      dsimp (config := { failIfUnchanged := false }) only
      exact .rfl)
    (fun c => by simp only [Gen.segs, Pipeline.Seg.pipes_host, Pipeline.Seg.pipes_region, Pipeline.Seg.pipes_nil]; decide)
    O₀ L_of_ne (G (F := F)) (u₀ (F := F))
    (by
      unfold u₀
      iintro Hu
      ihave H := (ownU_pair _ _) $$ Hu
      icases H with ⟨HP, HX⟩
      imodintro
      isplitl [HP]; · iexact HP
      rw [G_all]; iexact HX)
    (T₀ := fun c => iprop(StableHlo.held (c : Thread nD τ) (Pipeline.ucRefs τ sig) (Gen.V0 m c) ∗ rideIn m c))
    (Tₙ := fun c => iprop(StableHlo.held (c : Thread nD τ) (Pipeline.ucRefs τ sig) (V2 m c) ∗ semVal (barCell c) 0))
    (hch := fun c => ⟨.rfl, region_pre m c, (region_post m c).trans ?_⟩)
    (hinit := deal m ρ)
    (QY := fun c s => (∀ b ∈ Pipeline.ucRefs τ sig, s.mem (((c : Thread nD τ).1, b)) = V2 m c b) ∧ s.sem (barCell c) = 0)
    (hfin := fun c s' => ?_) (hQ := fun s h hs => ⟨fun c => ?_, sem_eq_zero hs fun c sm hsm => by
      obtain rfl := bar_only sm hsm
      exact (h c).2⟩)
  · show iprop(StableHlo.held (c : Thread nD τ) (Pipeline.ucRefs τ sig) (V2 m c) ∗ rideOut c)
      ⊢ iprop((StableHlo.held (c : Thread nD τ) (Pipeline.ucRefs τ sig) (V2 m c) ∗ semVal (barCell c) 0)
        ∗ ∃ W, owes (c : Thread nD τ) (0 : CellTallies nD τ sig Unit) W)
    unfold rideOut
    iintro ⟨Hh, Hb, HO⟩
    isplitr [HO]
    · isplitl [Hh] <;> iassumption
    · iexact HO
  · show iprop((StableHlo.held (c : Thread nD τ) (Pipeline.ucRefs τ sig) (V2 m c) ∗ semVal (barCell c) 0) ∗ SI s') ⊢ _
    unfold StableHlo.held
    iintro ⟨⟨Hh, Hb⟩, HSI⟩
    icombine HSI Hb gives %hb
    ihave Hr := (pointsTo_read_all (Pipeline.ucRefs τ sig) (fun b => ((c : Thread nD τ).1, b)) (V2 m c) s') $$ [Hh HSI]
    · isplitl [Hh] <;> iassumption
    icases Hr with ⟨%h, HSI⟩
    imodintro
    isplitr
    · ipureintro
      exact ⟨h, by simpa using hb⟩
    · iexact HSI
  · obtain ⟨h, -⟩ := h c
    exact ⟨(h (Proc.devRef .tc main_v15) (listed (by decide))).trans (V2_result m c),
      (h (Proc.devRef .tc main_arg0) (listed (by decide))).trans (kept m c main_arg0 (by decide) (by decide)),
      (h (Proc.devRef .tc main_arg1) (listed (by decide))).trans (kept m c main_arg1 (by decide) (by decide)),
      (h (Proc.devRef .tc main_arg2) (listed (by decide))).trans (kept m c main_arg2 (by decide) (by decide)),
      (h (Proc.devRef .tc main_arg3) (listed (by decide))).trans (kept m c main_arg3 (by decide) (by decide)),
      (h (Proc.devRef .tc main_arg4) (listed (by decide))).trans (kept m c main_arg4 (by decide) (by decide))⟩

end Cert.KProof
-- ==== Proof.Frames.lean ====
module

public import proofs.«01_k».proof.Defs
public import proofs.«01_k».proof.Proof.Run
public import proofs.«01_k».proof.Proof.Gen.Kernel.Launch
public import proofs.«01_k».proof.Proof.Gen.ReferenceIdeal.Run

@[expose] public section

noncomputable section

/-! # The three programs run

The kernel's program text is the same at bit patterns and over the extended reals, so one run serves both. -/

namespace Cert.KProof

open Idealize.ShloMosaic Idealize.ShloMosaic.TcCoe
open Idealize.SL Idealize.SL.Sem

/-- Over the extended reals the kernel runs, keeps its arguments and ends with its counters at zero. -/
theorem frame_ideal : Cert.quiescent_KernelIdeal := fun m ρ _ =>
  (θ_run Cert.KernelIdeal.defs _ _).mono (fun _ h => ⟨fun c => (h.1 c).2, h.2⟩) (run_main (F := Ideal) m ρ)

/-- The two programs launch the same body, -/
theorem body_same : Cert.Kernel.defs₀ (F := Bits) = Cert.KernelIdeal.defs₀ (F := Bits) := by
  unfold Cert.Kernel.defs₀ Cert.KernelIdeal.defs₀
  refine congrArg Defs.onTc (funext fun l => ?_)
  match l with
  | 0 => rfl
/-- through the same pipeline, -/
theorem defs_same : Cert.Kernel.defs (F := Bits) = Cert.KernelIdeal.defs (F := Bits) := by
  unfold Cert.Kernel.defs Cert.KernelIdeal.defs
  exact congrArg (Pipeline.defs Cert.KernelIdeal.pcfgs) body_same
/-- from the same host code. -/
theorem main_same : Cert.Kernel.main (F := Bits) = Cert.KernelIdeal.main (F := Bits) := funext fun _ => rfl

/-- So it does at bit patterns. -/
theorem frame_kernel : Cert.quiescent_Kernel := fun m ρ _ => by
  rw [defs_same, main_same]
  exact (θ_run Cert.KernelIdeal.defs _ _).mono (fun _ h => ⟨fun c => (h.1 c).2, h.2⟩) (run_main (F := Bits) m ρ)

/-- The reference's program runs and keeps its arguments; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KProof
-- ==== Proof.Host.lean ====
module

public import proofs.«01_k».proof.Proof.Region
public import Idealize.ShloMosaic.Lib.Pointwise
public import Idealize.ShloMosaic.Lib.StableHlo.ReadAt
public import Idealize.ShloMosaic.Lib.DynamicIndex

@[expose] public section

set_option maxRecDepth 16384

noncomputable section

/-! # The host's slices

Before the kernel, each device cuts its four heads out of the keys and the values. -/

namespace Cert.KProof

open Idealize.ShloMosaic Idealize.ShloMosaic.TcCoe
open Cert.KernelIdeal
open Cert.KernelIdeal.Facts₀ Cert.KernelIdeal.Facts

variable {F : FTy → Type} [FloatOps F]

/-- Where a device's heads start, as the host computes it. -/
theorem start_word : ∀ c : Dev nD,
    (Scalar.select (IntOp.cmpi .slt (IntOp.muli (IntOp.remui .host (IntOp.divui .host (Dev.word c) 1#32) 32#32) 4#32) 0#32)
      (IntOp.addi (IntOp.muli (IntOp.remui .host (IntOp.divui .host (Dev.word c) 1#32) 32#32) 4#32) 128#32)
      (IntOp.muli (IntOp.remui .host (IntOp.divui .host (Dev.word c) 1#32) 32#32) 4#32)).toInt = ((4 * c.val : ℕ) : Int) := by
  decide +kernel

theorem heads_inb (c : Dev nD) : S2x128x128x64.Slices ![0, 0, 4 * c.val, 0] S2x128x4x64 := by revert c; decide

/-- The device's keys. -/
theorem keys_read (V : Valuation τ sig (Elt F)) (c : Dev nD) :
    StableHlo.after (Gen.hostOps0 c) V main_v9 = extractStridedSlice S2x128x4x64 ![0, 0, 4 * c.val, 0] (V main_arg2) (heads_inb c) := by
  after_reads_simp
  refine Host.dynamicSlice_eq_extractStridedSlice _ _ _ _ _ _ fun a => ?_
  match a with
  | 0 => simp only [Matrix.cons_val_zero]; after_reads_simp; rfl
  | 1 => simp only [Matrix.cons_val_one, Matrix.cons_val_zero]; after_reads_simp; rfl
  | 2 => simp only [Matrix.cons_val]; after_reads_simp; exact start_word c
  | 3 => simp only [Matrix.cons_val]; after_reads_simp; rfl

/-- The device's values. -/
theorem values_read (V : Valuation τ sig (Elt F)) (c : Dev nD) :
    StableHlo.after (Gen.hostOps0 c) V main_v14 = extractStridedSlice S2x128x4x64 ![0, 0, 4 * c.val, 0] (V main_arg3) (heads_inb c) := by
  after_reads_simp
  refine Host.dynamicSlice_eq_extractStridedSlice _ _ _ _ _ _ fun a => ?_
  match a with
  | 0 => simp only [Matrix.cons_val_zero]; after_reads_simp; rfl
  | 1 => simp only [Matrix.cons_val_one, Matrix.cons_val_zero]; after_reads_simp; rfl
  | 2 => simp only [Matrix.cons_val]; after_reads_simp; exact start_word c
  | 3 => simp only [Matrix.cons_val]; after_reads_simp; rfl

/-- A device's heads at an index of the whole array. -/
theorem heads_apply (c : Dev nD) (X : S2x128x128x64.Idx → EReal) (b : Fin 2) (y : Fin 128) (j : Fin 4) (d : Fin 64) :
    extractStridedSlice S2x128x4x64 ![0, 0, 4 * c.val, 0] X (heads_inb c) (ix4 b y j d)
      = X (ix4 b y ⟨4 * c.val + j.val, by have : c.val < 32 := c.isLt; omega⟩ d) := by
  pointwise

end Cert.KProof
-- ==== Proof.Spec.lean ====
module

public import Idealize.ShloMosaic.Lib.Pointwise

@[expose] public section

noncomputable section

/-! # Attention on the extended reals

One row of masked attention, as both programs compute it once casts change nothing. -/

namespace Cert.KProof

open Idealize.ShloMosaic

/-- A query row against key `j`: the scaled product where the mask lets it through, else a large negative number. -/
def score (mk : Fin 128 → BitVec 1) (q : Fin 64 → EReal) (k : Fin 128 → Fin 64 → EReal) (j : Fin 128) : EReal :=
  Scalar.select (mk j) ((∑ d, q d * k j d) * Ideal.ofBits .f32 1040187392#32) (Ideal.ofBits .f32 3463342888#32)

/-- The largest score of a row. -/
def top (s : Fin 128 → EReal) : EReal := Finset.univ.fold max (Ideal.ofBits .f32 4286578688#32) s

/-- The softmax weight of key `j`. -/
def weight (s : Fin 128 → EReal) (j : Fin 128) : EReal :=
  Ideal.div (Ideal.exp (s j - top s)) (∑ k, Ideal.exp (s k - top s))

/-- One column of a row's context: the values averaged by the weights. -/
def ctx (mk : Fin 128 → BitVec 1) (q : Fin 64 → EReal) (k : Fin 128 → Fin 64 → EReal) (v : Fin 128 → EReal) : EReal :=
  ∑ j, weight (score mk q k) j * v j

end Cert.KProof
-- ==== Proof.Head.lean ====
module

public import proofs.«01_k».proof.Proof.Attn
public import proofs.«01_k».proof.Proof.Spec

@[expose] public section

set_option maxRecDepth 16384

noncomputable section

/-! # The kernel's attention at an index

What a device's share of the result holds at an index, in terms of its input buffers. -/

namespace Cert.KProof

open Idealize.ShloMosaic Idealize.ShloMosaic.TcCoe
open Cert.KernelIdeal
open Cert.KernelIdeal.Facts₀ Cert.KernelIdeal.Facts

/-- One head adds its context times its rows of the output projection. -/
theorem headAdd_apply (mk : IVec S128x128 1) (Q : FVec Ideal S128x256 .f32) (j : Fin 4) (kt vt : Vec Ideal S1x128x1x64 .bf16)
    (w : Vec Ideal S64x512 .bf16) (acc : FVec Ideal S128x512 .f32) (i : Fin 128) (n : Fin 512) :
    headAdd mk Q j kt vt w acc (ix2 i n) = acc (ix2 i n)
      + ∑ e : Fin 64, ctx (fun x => mk (ix2 i x)) (fun d => Q (ix2 i ⟨64 * j.val + d.val, by omega⟩))
          (fun x d => kt (ix4 0 x 0 d)) (fun x => vt (ix4 0 x 0 e)) * w (ix2 e n) := by
  pointwise [headAdd, Gen.k0_pay10, qHead]
  rfl

/-- The projected queries. -/
theorem queries_apply (wq : Vec Ideal S512x256 .bf16) (x : Vec Ideal S1x128x512 .bf16) (i : Fin 128) (j : Fin 256) :
    Gen.k0_pay7 wq x (ix2 i j) = ∑ k : Fin 512, x (ix3 0 i k) * wq (ix2 k j) := by
  pointwise [Gen.k0_pay7, Gen.k0_pay6]

/-- The heads' sum starts at zero. -/
theorem start_apply (i : Fin 128) (n : Fin 512) : (Gen.k0_pay16 : FVec Ideal S128x512 .f32) (ix2 i n) = 0 := by
  pointwise [Gen.k0_pay16]

variable (I : Ins Ideal)

theorem wqV_apply (k : Fin 512) (n : Fin 256) : I.wqV (ix2 k n) = (I.wq : S512x256.Idx → EReal) (ix2 k n) := by
  show I.wq _ = I.wq _
  congr 1; funext a; apply Fin.ext
  match a with
  | 0 => show 0 + 1 * k.val = _; simp
  | 1 => show 0 + 1 * n.val = _; simp
theorem xV_apply (b : Fin 2) (i : Fin 128) (k : Fin 512) : I.xV b (ix3 0 i k) = (I.x : S2x128x512.Idx → EReal) (ix3 b i k) := by
  show I.x _ = I.x _
  congr 1; funext a; apply Fin.ext
  match a with
  | 0 => show b.val + 1 * 0 = _; simp
  | 1 => show 0 + 1 * i.val = _; simp
  | 2 => show 0 + 1 * k.val = _; simp
theorem kV_apply (b : Fin 2) (j : Fin 4) (x : Fin 128) (d : Fin 64) :
    I.kV b j (ix4 0 x 0 d) = (I.k : S2x128x4x64.Idx → EReal) (ix4 b x j d) := by
  show I.k _ = I.k _
  congr 1; funext a; apply Fin.ext
  match a with
  | 0 => show b.val + 1 * 0 = _; simp
  | 1 => show 0 + 1 * x.val = _; simp
  | 2 => show j.val + 1 * 0 = _; simp
  | 3 => show 0 + 1 * d.val = _; simp
theorem vV_apply (b : Fin 2) (j : Fin 4) (x : Fin 128) (d : Fin 64) :
    I.vV b j (ix4 0 x 0 d) = (I.v : S2x128x4x64.Idx → EReal) (ix4 b x j d) := by
  show I.v _ = I.v _
  congr 1; funext a; apply Fin.ext
  match a with
  | 0 => show b.val + 1 * 0 = _; simp
  | 1 => show 0 + 1 * x.val = _; simp
  | 2 => show j.val + 1 * 0 = _; simp
  | 3 => show 0 + 1 * d.val = _; simp
theorem woV_apply (j : Fin 4) (e : Fin 64) (n : Fin 512) :
    I.woV j (ix2 e n) = (I.wo : S256x512.Idx → EReal) (ix2 ⟨64 * j.val + e.val, by omega⟩ n) := by
  show I.wo _ = I.wo _
  congr 1; funext a; apply Fin.ext
  match a with
  | 0 => show 64 * j.val + 1 * e.val = _; simp
  | 1 => show 0 + 1 * n.val = _; simp

/-- One head's contribution to a device's share, from the device's own arrays. -/
def headTerm (x : S2x128x512.Idx → EReal) (wq : S512x256.Idx → EReal) (k v : S2x128x4x64.Idx → EReal) (wo : S256x512.Idx → EReal)
    (b : Fin 2) (i : Fin 128) (n : Fin 512) (j : Fin 4) : EReal :=
  ∑ e : Fin 64, ctx (fun y => maskV (ix2 i y))
      (fun d => ∑ l : Fin 512, x (ix3 b i l) * wq (ix2 l ⟨64 * j.val + d.val, by omega⟩))
      (fun y d => k (ix4 b y j d)) (fun y => v (ix4 b y j e))
    * wo (ix2 ⟨64 * j.val + e.val, by omega⟩ n)

theorem head_apply (b : Fin 2) (j : Fin 4) (acc : FVec Ideal S128x512 .f32) (i : Fin 128) (n : Fin 512) :
    headAdd maskV (Gen.k0_pay7 I.wqV (I.xV b)) j (I.kV b j) (I.vV b j) (I.woV j) acc (ix2 i n)
      = acc (ix2 i n) + headTerm I.x I.wq I.k I.v I.wo b i n j := by
  rw [headAdd_apply]
  simp only [queries_apply, wqV_apply, xV_apply, kV_apply, vV_apply, woV_apply]
  rfl

/-- A row block with a leading axis of one, at an index. -/
theorem lead_apply (v : FVec Ideal S128x512 .f32) (i : Fin 128) (n : Fin 512) :
    shapeCast S1x128x512 v shapeCasts_S128x512_S1x128x512 (ix3 0 i n) = v (ix2 i n) := by
  pointwise

/-- A device's share of the result is the sum over its four heads. -/
theorem part_apply (b : Fin 2) (i : Fin 128) (n : Fin 512) :
    (show S2x128x512.Idx → EReal from I.part) (ix3 b i n) = ∑ j : Fin 4, headTerm I.x I.wq I.k I.v I.wo b i n j := by
  show I.row b _ = _
  trans I.row b (ix3 0 i n)
  · congr 1; funext a; match a with | 0 => rfl | 1 => rfl | 2 => rfl
  unfold Ins.row batchOut
  rw [Fin.sum_univ_four, lead_apply, head_apply, head_apply, head_apply, head_apply, start_apply, zero_add]

end Cert.KProof
-- ==== Proof.Sum.lean ====
module

public import proofs.«01_k».proof.Proof.Body
public import proofs.«01_k».proof.Proof.Spec

@[expose] public section

set_option maxRecDepth 16384

noncomputable section

/-! # The exchange adds up all devices

After the five stages every device holds the sum over all thirty-two, whatever the order of the bits. -/

namespace Cert.KProof

open Idealize.ShloMosaic Idealize.ShloMosaic.TcCoe
open Cert.KernelIdeal
open Cert.KernelIdeal.Facts₀ Cert.KernelIdeal.Facts

/-- What is kept after a stage, at an index. -/
theorem addS_apply (v w : Vec Ideal S2x128x256 .f32) (b : Fin 2) (i : Fin 128) (n : Fin 256) :
    addS v (msg w) (ix3 b i n) = (v (ix3 b i n) + w (ix3 b i n) : EReal) := by
  pointwise [addS, msg, castV, Gen.k0_pay24]

section Tree
variable {M : Type} [AddCommMonoid M]

/-- The exchange of one number per device, `k` stages on, the bits in the order of column half `h`. -/
def tree (f : Dev nD → M) (h : Fin 2) : ℕ → Dev nD → M
  | 0, c => f c
  | k + 1, c => tree f h k c + tree f h k (peer (ord h (Fin.ofNat 5 k)) c)

/-- The devices a device has heard from after `k` stages, itself included. -/
def heard (h : Fin 2) : ℕ → Dev nD → Finset (Dev nD)
  | 0, c => {c}
  | k + 1, c => heard h k c ∪ heard h k (peer (ord h (Fin.ofNat 5 k)) c)

/-- A stage joins two groups with no device in common. -/
theorem heard_disjoint : ∀ (h : Fin 2) (k : Fin 5) (c : Dev nD),
    Disjoint (heard h k.val c) (heard h k.val (peer (ord h (Fin.ofNat 5 k.val)) c)) := by decide +kernel

/-- After five stages every device has heard from all. -/
theorem heard_all : ∀ (h : Fin 2) (c : Dev nD), heard h 5 c = Finset.univ := by decide +kernel

theorem tree_eq (f : Dev nD → M) (h : Fin 2) : ∀ (k : ℕ), k ≤ 5 → ∀ c : Dev nD, tree f h k c = ∑ d ∈ heard h k c, f d
  | 0, _, c => (Finset.sum_singleton f c).symm
  | k + 1, hk, c => by
    show tree f h k c + tree f h k _ = ∑ d ∈ heard h k c ∪ heard h k _, f d
    rw [Finset.sum_union (heard_disjoint h ⟨k, by omega⟩ c), tree_eq f h k (by omega), tree_eq f h k (by omega)]

/-- Five stages add up all devices. -/
theorem tree_all (f : Dev nD → M) (h : Fin 2) (c : Dev nD) : tree f h 5 c = ∑ d, f d := by
  rw [tree_eq f h 5 le_rfl, heard_all]

end Tree

variable (P : Fin 2 → Dev nD → Vec Ideal S2x128x256 .f32)

theorem stages_apply (h : Fin 2) (b : Fin 2) (i : Fin 128) (n : Fin 256) : ∀ (k : ℕ) (c : Dev nD),
    A P h k c (ix3 b i n) = tree (M := EReal) (fun d => P h d (ix3 b i n)) h k c
  | 0, _ => rfl
  | k + 1, c => by
    show addS _ (msg _) _ = tree _ h k c + tree _ h k _
    rw [addS_apply, stages_apply h b i n k, stages_apply h b i n k]

/-- A half after all stages, at an index: the sum over all devices. -/
theorem stages_sum (h : Fin 2) (b : Fin 2) (i : Fin 128) (n : Fin 256) (c : Dev nD) :
    A P h 5 c (ix3 b i n) = (∑ d, P h d (ix3 b i n) : EReal) := by
  rw [stages_apply, tree_all]

end Cert.KProof
-- ==== Proof.Mask.lean ====
module

public import proofs.«01_k».proof.Proof.Flat
public import Idealize.ShloMosaic.Lib.Pointwise

@[expose] public section

set_option maxRecDepth 16384

noncomputable section

/-! # The mask

Both programs let a query see the keys of its own block of sixty-four. -/

namespace Cert.KProof

open Idealize.ShloMosaic Idealize.ShloMosaic.TcCoe
open Cert.KernelIdeal
open Cert.KernelIdeal.Facts₀ Cert.KernelIdeal.Facts

/-- Whether query `i` sees key `j`. -/
def bit (i j : Fin 128) : BitVec 1 := BitVec.ofBool (i.val / 64 == j.val / 64)

/-- The kernel's mask at an index. -/
theorem maskV_apply (i j : Fin 128) : maskV (ix2 i j) = bit i j := by
  pointwise [maskV, Gen.k0_pay5, Gen.k0_pay2, Gen.k0_pay3, Gen.k0_pay4]
  revert i j
  decide +kernel

end Cert.KProof
-- ==== Proof.Ref.lean ====
module

public import proofs.«01_k».proof.Proof.Gen.ReferenceIdeal.Run
public import proofs.«01_k».proof.Proof.Mask
public import proofs.«01_k».proof.Proof.Spec

@[expose] public section

set_option maxRecDepth 16384

noncomputable section

/-! # The reference at an index -/

namespace Cert.KProof

open Idealize.ShloMosaic Idealize.ShloMosaic.TcCoe
open Cert.ReferenceIdeal

/-- Every query sees some key, its own. -/
theorem sees_some : ∀ i : Fin 128, (Finset.univ.fold IntOp.ori 0#1 fun j => bit i j) = 1#1 := by decide +kernel

/-- One column of the flattened context, from the whole arrays. -/
def refCtx (x : S2x128x512.Idx → EReal) (wq : S512x8192.Idx → EReal) (k v : S2x128x128x64.Idx → EReal)
    (b : Fin 2) (i : Fin 128) (y : Fin 8192) : EReal :=
  ctx (bit i) (fun d : Fin 64 => ∑ l : Fin 512, x (ix3 b i l) * wq (ix2 l ⟨y.val / 64 * 64 + d.val, by omega⟩))
    (fun j d => k (ix4 b j ⟨y.val / 64, by omega⟩ d)) (fun j => v (ix4 b j ⟨y.val / 64, by omega⟩ ⟨y.val % 64, by omega⟩))

/-- One element of the result, from the whole arrays. -/
def refOut (x : S2x128x512.Idx → EReal) (wq : S512x8192.Idx → EReal) (k v : S2x128x128x64.Idx → EReal) (wo : S8192x512.Idx → EReal)
    (b : Fin 2) (i : Fin 128) (n : Fin 512) : EReal :=
  ∑ y : Fin 8192, refCtx x wq k v b i y * wo (ix2 y n)

/-- The reference's result at an index. -/
theorem ref_apply (m : (ℓ : Loc nD τ sig) → Buf (Elt Ideal) ℓ) (c : Dev nD) (b : Fin 2) (i : Fin 128) (n : Fin 512) :
    Value.res_main_v44 m c (ix3 b i n)
      = refOut (m (c.tc.loc main_arg0)) (m (c.tc.loc main_arg1)) (m (c.tc.loc main_arg2)) (m (c.tc.loc main_arg3))
          (m (c.tc.loc main_arg4)) b i n := by
  unfold Value.res_main_v44
  generalize hm : ori _ _ = mk
  have hmk : ∀ i j : Fin 128, mk (ix2 i j) = bit i j := by
    intro i j
    rw [← hm]
    pointwise
    simp only [id]
    pointwise
    revert i j
    decide +kernel
  clear hm
  pointwise
  simp only [hmk, sees_some]
  refine Finset.sum_congr (M := EReal) rfl fun y _ => ?_
  refine congrArg (fun t : EReal => t * _) ?_
  unfold refCtx ctx
  exact Finset.sum_congr (M := EReal) rfl fun j _ => mul_comm (G := EReal) _ _

end Cert.KProof
-- ==== Proof.Value.lean ====
module

public import proofs.«01_k».proof.Proof.Host
public import proofs.«01_k».proof.Proof.Head
public import proofs.«01_k».proof.Proof.Sum
public import proofs.«01_k».proof.Proof.Ref

@[expose] public section

set_option maxRecDepth 16384

noncomputable section

/-! # The kernel's result is the reference's

The devices' shares are disjoint stretches of the contraction over heads and head columns; the
exchange adds them up. -/

namespace Cert.KProof

open Idealize.ShloMosaic Idealize.ShloMosaic.TcCoe
open Cert.KernelIdeal
open Cert.KernelIdeal.Facts₀ Cert.KernelIdeal.Facts

/-- A row of the output projection by device, head and head column. -/
def row3 (d : Fin 32) (j : Fin 4) (e : Fin 64) : Fin 8192 := ⟨256 * d.val + 64 * j.val + e.val, by omega⟩

/-- A sum over the rows of the output projection, device by device and head by head. -/
theorem sum_rows (f : Fin 8192 → EReal) : ∑ y, f y = ∑ d : Fin 32, ∑ j : Fin 4, ∑ e : Fin 64, f (row3 d j e) := by
  rw [← Equiv.sum_comp (finProdFinEquiv (m := 32) (n := 256)) f, Fintype.sum_prod_type]
  refine Finset.sum_congr rfl fun d _ => ?_
  rw [← Equiv.sum_comp (finProdFinEquiv (m := 4) (n := 64)) fun z => f (finProdFinEquiv (d, z)), Fintype.sum_prod_type]
  refine Finset.sum_congr rfl fun j _ => Finset.sum_congr rfl fun e _ => congrArg f (Fin.ext ?_)
  show (e.val + 64 * j.val) + 256 * d.val = 256 * d.val + 64 * j.val + e.val
  omega

/-- A device's head in the whole keys and values. -/
def headOf (d : Fin 32) (j : Fin 4) : Fin 128 := ⟨4 * d.val + j.val, by omega⟩

variable (x : S2x128x512.Idx → EReal) (wq : (⟨2, ![512, 8192]⟩ : Shape).Idx → EReal) (k v : S2x128x128x64.Idx → EReal)
  (wo : (⟨2, ![8192, 512]⟩ : Shape).Idx → EReal)

/-- The reference's context in a device's terms. -/
theorem refCtx_row (b : Fin 2) (i : Fin 128) (d : Fin 32) (j : Fin 4) (e : Fin 64) :
    refCtx x wq k v b i (row3 d j e)
      = ctx (bit i) (fun t => ∑ l : Fin 512, x (ix3 b i l) * wq (ix2 l (row3 d j t)))
          (fun y t => k (ix4 b y (headOf d j) t)) (fun y => v (ix4 b y (headOf d j) e)) := by
  have h1 : ∀ p, (⟨(row3 d j e).val / 64, p⟩ : Fin 128) = headOf d j := fun _ => Fin.ext (by
    show (256 * d.val + 64 * j.val + e.val) / 64 = 4 * d.val + j.val; omega)
  have h2 : ∀ p, (⟨(row3 d j e).val % 64, p⟩ : Fin 64) = e := fun _ => Fin.ext (by
    show (256 * d.val + 64 * j.val + e.val) % 64 = e.val; omega)
  have h3 : ∀ (t : Fin 64) p, (⟨(row3 d j e).val / 64 * 64 + t.val, p⟩ : Fin 8192) = row3 d j t := fun t _ => Fin.ext (by
    show (256 * d.val + 64 * j.val + e.val) / 64 * 64 + t.val = 256 * d.val + 64 * j.val + t.val; omega)
  unfold refCtx
  simp only [h1, h2, h3]

/-- A device's columns of the query projection. -/
theorem wq_block (d : Fin 32) (l : Fin 512) (j : Fin 4) (t : Fin 64) :
    Layout.block ⟨2, ![512, 256]⟩ ⟨2, ![512, 8192]⟩ 1 32 d wq (by decide) (ix2 l ⟨64 * j.val + t.val, by omega⟩) = wq (ix2 l (row3 d j t)) := by
  rw [Layout.block_apply]
  congr 1; funext a; apply Fin.ext
  match a with
  | 0 => rfl
  | 1 => show d.val * 256 + (64 * j.val + t.val) = 256 * d.val + 64 * j.val + t.val; omega
/-- A device's rows of the output projection. -/
theorem wo_block (d : Fin 32) (n : Fin 512) (j : Fin 4) (t : Fin 64) :
    Layout.block ⟨2, ![256, 512]⟩ ⟨2, ![8192, 512]⟩ 0 32 d wo (by decide) (ix2 ⟨64 * j.val + t.val, by omega⟩ n) = wo (ix2 (row3 d j t) n) := by
  rw [Layout.block_apply]
  congr 1; funext a; apply Fin.ext
  match a with
  | 0 => show d.val * 256 + (64 * j.val + t.val) = 256 * d.val + 64 * j.val + t.val; omega
  | 1 => rfl

/-- One head's contribution, in the whole arrays. -/
theorem headTerm_whole (d : Dev nD) (b : Fin 2) (i : Fin 128) (n : Fin 512) (j : Fin 4) :
    headTerm x (Layout.block ⟨2, ![512, 256]⟩ ⟨2, ![512, 8192]⟩ 1 32 d wq (by decide))
      (extractStridedSlice S2x128x4x64 ![0, 0, 4 * d.val, 0] k (heads_inb d)) (extractStridedSlice S2x128x4x64 ![0, 0, 4 * d.val, 0] v (heads_inb d))
      (Layout.block ⟨2, ![256, 512]⟩ ⟨2, ![8192, 512]⟩ 0 32 d wo (by decide)) b i n j
      = ∑ e : Fin 64, refCtx x wq k v b i (row3 d j e) * wo (ix2 (row3 d j e) n) := by
  unfold headTerm
  refine Finset.sum_congr rfl fun e _ => ?_
  rw [refCtx_row, wo_block]
  simp only [wq_block, heads_apply, maskV_apply]
  rfl

/-- An element of a device's result is the sum of all devices' shares there. -/
theorem result_apply (m : (ℓ : Loc nD τ sig) → Buf (Elt Ideal) ℓ) (c : Dev nD) (b : Fin 2) (i : Fin 128) (n : Fin 512) :
    (show S2x128x512.Idx → EReal from result m c) (ix3 b i n)
      = ∑ d : Dev nD, (show S2x128x512.Idx → EReal from (ins m d).part) (ix3 b i n) := by
  show A (parts (ins m)) ⟨n.val / 256, _⟩ 5 c _ = _
  trans A (parts (ins m)) ⟨n.val / 256, by omega⟩ 5 c (ix3 b i ⟨n.val % 256, Nat.mod_lt _ (by decide)⟩)
  · congr 1; funext a; match a with | 0 => rfl | 1 => rfl | 2 => rfl
  rw [stages_sum]
  refine Finset.sum_congr rfl fun d _ => ?_
  show (ins m d).part _ = (ins m d).part _
  congr 1; funext a; apply Fin.ext
  match a with
  | 0 => show 0 + 1 * b.val = b.val; omega
  | 1 => show 0 + 1 * i.val = i.val; omega
  | 2 => show 256 * (n.val / 256) + 1 * (n.val % 256) = n.val; omega

/-- What a device's kernel reads, off the whole arrays. -/
theorem ins_eq (m : (ℓ : Loc nD τ sig) → Buf (Elt Ideal) ℓ) (d : Dev nD)
    (h0 : m (d.tc.loc main_arg0) = x) (h1 : m (d.tc.loc main_arg1) = Layout.block ⟨2, ![512, 256]⟩ ⟨2, ![512, 8192]⟩ 1 32 d wq (by decide))
    (h2 : m (d.tc.loc main_arg2) = k) (h3 : m (d.tc.loc main_arg3) = v)
    (h4 : m (d.tc.loc main_arg4) = Layout.block ⟨2, ![256, 512]⟩ ⟨2, ![8192, 512]⟩ 0 32 d wo (by decide)) :
    ins m d = ⟨x, Layout.block ⟨2, ![512, 256]⟩ ⟨2, ![512, 8192]⟩ 1 32 d wq (by decide),
      extractStridedSlice S2x128x4x64 ![0, 0, 4 * d.val, 0] k (heads_inb d), extractStridedSlice S2x128x4x64 ![0, 0, 4 * d.val, 0] v (heads_inb d),
      Layout.block ⟨2, ![256, 512]⟩ ⟨2, ![8192, 512]⟩ 0 32 d wo (by decide)⟩ := by
  have e0 : Gen.V1 m d main_arg0 = x := (Gen.V1_of m d main_arg0 (by decide)).trans h0
  have e1 := (Gen.V1_of m d main_arg1 (by decide)).trans h1
  have e4 := (Gen.V1_of m d main_arg4 (by decide)).trans h4
  have e2 := keys_read (Gen.V0 m d) d
  have e3 := values_read (Gen.V0 m d) d
  rw [show Gen.V0 m d main_arg2 = k from h2] at e2
  rw [show Gen.V0 m d main_arg3 = v from h3] at e3
  unfold ins insOf
  rw [e0, e1, e4, Ins.mk.injEq]
  exact ⟨rfl, rfl, e2, e3, rfl⟩

/-- The kernel's result, on every device, is the reference's function of the whole arrays. -/
theorem result_eq (m : (ℓ : Loc nD τ sig) → Buf (Elt Ideal) ℓ)
    (h0 : ∀ d : Dev nD, m (d.tc.loc main_arg0) = x)
    (h1 : ∀ d : Dev nD, m (d.tc.loc main_arg1) = Layout.block ⟨2, ![512, 256]⟩ ⟨2, ![512, 8192]⟩ 1 32 d wq (by decide))
    (h2 : ∀ d : Dev nD, m (d.tc.loc main_arg2) = k) (h3 : ∀ d : Dev nD, m (d.tc.loc main_arg3) = v)
    (h4 : ∀ d : Dev nD, m (d.tc.loc main_arg4) = Layout.block ⟨2, ![256, 512]⟩ ⟨2, ![8192, 512]⟩ 0 32 d wo (by decide))
    (c : Dev nD) (b : Fin 2) (i : Fin 128) (n : Fin 512) :
    (show S2x128x512.Idx → EReal from result m c) (ix3 b i n) = refOut x wq k v wo b i n := by
  rw [result_apply, refOut, sum_rows]
  refine Finset.sum_congr rfl fun d _ => ?_
  rw [ins_eq x wq k v wo m d (h0 d) (h1 d) (h2 d) (h3 d) (h4 d), part_apply]
  exact Finset.sum_congr rfl fun j _ => headTerm_whole x wq k v wo d b i n j

end Cert.KProof
-- ==== Proof.Algebraic.lean ====
module

public import proofs.«01_k».proof.Defs
public import proofs.«01_k».proof.Proof.Run
public import proofs.«01_k».proof.Proof.Value

@[expose] public section

noncomputable section

/-! # The two programs agree over the extended reals -/

namespace Cert.KProof

open Idealize.ShloMosaic Idealize.ShloMosaic.TcCoe
open Idealize.SL Idealize.SL.Sem

/-- Over the extended reals every device of the kernel ends with the reference's result. -/
theorem algebraic : Cert.algebraic_KernelIdeal_ReferenceIdeal := by
  intro m g m' g' _ hin
  refine ⟨Cert.ReferenceIdeal.Value.res_main_v44 m' 0, ?_, ?_⟩
  · refine (θ_run Cert.KernelIdeal.defs _ _).mono (fun _ h c => ⟨((h.1 c).1).trans ?_, (h.1 c).2⟩) (run_main (F := Ideal) m g)
    funext p
    obtain ⟨b, i, n, rfl⟩ : ∃ (b : Fin 2) (i : Fin 128) (n : Fin 512), p = ix3 b i n := ⟨_, _, _, eq_ix3 p⟩
    exact (result_eq _ _ _ _ _ m (fun d => (hin d).1) (fun d => (hin d).2.1) (fun d => (hin d).2.2.1) (fun d => (hin d).2.2.2.1)
      (fun d => (hin d).2.2.2.2) c b i n).trans (ref_apply m' 0 b i n).symm
  · exact (θ_run Cert.ReferenceIdeal.defs _ _).mono (fun _ h => h 0) (Cert.ReferenceIdeal.Value.run (F := Ideal) m' g')

end Cert.KProof
-- ==== Proof.lean ====
/- The proof of the claims: the frames of the three programs, `preserves`, and the kernel's agreement with the reference over the
   extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.Algebraic
public import Idealize.ShloMosaic.Adequacy
public import Idealize.ShloMosaic.Init
public import proofs.«01_k».proof.Proof.Gen.ReferenceIdeal.Run

@[expose] public section

noncomputable section

namespace Cert.Proof

open Idealize.ShloMosaic Idealize.SL.Sem Cert.Kernel

/-- All claims. -/
theorem claim : Cert.Claim := ⟨Cert.Kernel.Gen.facts, Cert.KernelIdeal.Gen.facts, Cert.ReferenceIdeal.Gen.facts,
  Cert.KProof.frame_kernel, Cert.KProof.frame_ideal, Cert.KProof.frame_reference, trivial, Cert.KProof.algebraic⟩

end Cert.Proof

end
